-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x10000 : Shape := ⟨2, ![10000, 10000]⟩
abbrev S10000x128 : Shape := ⟨2, ![10000, 128]⟩
abbrev S4x80x10000 : Shape := ⟨3, ![4, 80, 10000]⟩
abbrev S4 : Shape := ⟨1, ![4]⟩
abbrev S2x80x128 : Shape := ⟨3, ![2, 80, 128]⟩
abbrev S2 : Shape := ⟨1, ![2]⟩
abbrev S1 : Shape := ⟨1, ![1]⟩
abbrev S_ : Shape := ⟨0, ![]⟩
abbrev S1x80x10000 : Shape := ⟨3, ![1, 80, 10000]⟩
abbrev S80x10000 : Shape := ⟨2, ![80, 10000]⟩
abbrev S80x128 : Shape := ⟨2, ![80, 128]⟩
abbrev S1x80x128 : Shape := ⟨3, ![1, 80, 128]⟩

abbrev nBuf : Space → Nat
  | .hbm => 3
  | .vmem => 3
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | .local _ .vmem, ⟨0, _⟩ => ⟨S10000x128, .f32⟩
  | .local _ .vmem, ⟨1, _⟩ => ⟨S4x80x10000, .f32⟩
  | .local _ .vmem, ⟨2, _⟩ => ⟨S2x80x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c4_i32_r0 : BitVec 32 := 4#32
  let v25_r0 : BitVec 32 := Scalar.remui c0_i32_22_r0 c4_i32_r0
  ![v25_r0.toNat]
def k0_off2 : Fin 3 → Nat :=
  let c0_i32_22_r0 : BitVec 32 := 0#32
  let c4_i32_r0 : BitVec 32 := 4#32
  let v25_r0 : BitVec 32 := Scalar.remui c0_i32_22_r0 c4_i32_r0
  let c0_i32_23_r0 : BitVec 32 := 0#32
  let c0_i32_24_r0 : BitVec 32 := 0#32
  ![v25_r0.toNat, 0, 0]
def k0_cond1 : BitVec 1 :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c125_i32_r0 : BitVec 32 := 125#32
  let v7_r0 : BitVec 1 := Scalar.cmpi .eq v6_r0 c125_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let true_31_r0 : BitVec 1 := 1#1
  let v34_r0 : BitVec 1 := Scalar.andi v33_r0 true_31_r0
  let v35_r0 : BitVec 32 := Scalar.extui v34_r0
  let c0_i32_32_r0 : BitVec 32 := 0#32
  let v36_r0 : BitVec 1 := Scalar.cmpi .ne v35_r0 c0_i32_32_r0
  v36_r0

def k0_off3 : Fin 1 → Nat :=
  let c0_i32_27_r0 : BitVec 32 := 0#32
  let c1_i32_28_r0 : BitVec 32 := 1#32
  let v31_r0 : BitVec 32 := Scalar.addi c0_i32_27_r0 c1_i32_28_r0
  let c4_i32_79_r0 : BitVec 32 := 4#32
  let v85_r0 : BitVec 32 := Scalar.remui v31_r0 c4_i32_79_r0
  ![v85_r0.toNat]
def k0_off4 : Fin 3 → Nat :=
  let c0_i32_27_r0 : BitVec 32 := 0#32
  let c1_i32_28_r0 : BitVec 32 := 1#32
  let v31_r0 : BitVec 32 := Scalar.addi c0_i32_27_r0 c1_i32_28_r0
  let c4_i32_79_r0 : BitVec 32 := 4#32
  let v85_r0 : BitVec 32 := Scalar.remui v31_r0 c4_i32_79_r0
  let c0_i32_81_r0 : BitVec 32 := 0#32
  let c0_i32_82_r0 : BitVec 32 := 0#32
  ![v85_r0.toNat, 0, 0]
def k0_off5 : Fin 2 → Nat :=
  let c80_i32_80_r0 : BitVec 32 := 80#32
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c125_i32_r0 : BitVec 32 := 125#32
  let v7_r0 : BitVec 1 := Scalar.cmpi .eq v6_r0 c125_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let v86_r0 : BitVec 32 := Scalar.muli c80_i32_80_r0 v9_r0
  let c0_i32_83_r0 : BitVec 32 := 0#32
  ![v86_r0.toNat, 0]
def k0_cond2 : BitVec 1 :=
  let true_34_r0 : BitVec 1 := 1#1
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c125_i32_r0 : BitVec 32 := 125#32
  let v7_r0 : BitVec 1 := Scalar.cmpi .eq v6_r0 c125_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c125_i32_9_r0 : BitVec 32 := 125#32
  let v12_r0 : BitVec 1 := Scalar.cmpi .eq v11_r0 c125_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_6_r0 : BitVec 32 := 0#32
  let v9_r0 : BitVec 32 := Scalar.addi v8_r0 c0_i32_6_r0
  let v39_r0 : BitVec 1 := Scalar.cmpi .ne v14_r0 v9_r0
  let v40_r0 : BitVec 1 := Scalar.andi true_34_r0 v39_r0
  let true_35_r0 : BitVec 1 := 1#1
  let v41_r0 : BitVec 1 := Scalar.andi v40_r0 true_35_r0
  let v42_r0 : BitVec 32 := Scalar.extui v41_r0
  let c0_i32_36_r0 : BitVec 32 := 0#32
  let v43_r0 : BitVec 1 := Scalar.cmpi .ne v42_r0 c0_i32_36_r0
  v43_r0

def k0_off6 : Fin 1 → Nat :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c125_i32_r0 : BitVec 32 := 125#32
  let v7_r0 : BitVec 1 := Scalar.cmpi .eq v6_r0 c125_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let c0_i32_27_r0 : BitVec 32 := 0#32
  let c1_i32_28_r0 : BitVec 32 := 1#32
  let v31_r0 : BitVec 32 := Scalar.addi c0_i32_27_r0 c1_i32_28_r0
  let c1_i32_33_r0 : BitVec 32 := 1#32
  let v37_r0 : BitVec 32 := Scalar.addi v31_r0 c1_i32_33_r0
  let v38_r0 : BitVec 32 := Scalar.select v33_r0 v37_r0 v31_r0
  let c4_i32_79_r0 : BitVec 32 := 4#32
  let v85_r0 : BitVec 32 := Scalar.remui v38_r0 c4_i32_79_r0
  ![v85_r0.toNat]
def k0_off7 : Fin 3 → Nat :=
  let true_30_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c125_i32_r0 : BitVec 32 := 125#32
  let v7_r0 : BitVec 1 := Scalar.cmpi .eq v6_r0 c125_i32_r0
  let c0_i32_5_r0 : BitVec 32 := 0#32
  let v8_r0 : BitVec 32 := Scalar.select v7_r0 c0_i32_5_r0 v6_r0
  let c0_i32_6_r0 : BitVec 32 := 0#32
  let v9_r0 : BitVec 32 := Scalar.addi v8_r0 c0_i32_6_r0
  let c0_i32_29_r0 : BitVec 32 := 0#32
  let v32_r0 : BitVec 1 := Scalar.cmpi .ne v9_r0 c0_i32_29_r0
  let v33_r0 : BitVec 1 := Scalar.andi true_30_r0 v32_r0
  let c0_i32_27_r0 : BitVec 32 := 0#32
  let c1_i32_28_r0 : BitVec 32 := 1#32
  let v31_r0 : BitVec 32 := Scalar.addi c0_i32_27_r0 c1_i32_28_r0
  let c1_i32_33_r0 : BitVec 32 := 1#32
  let v37_r0 : BitVec 32 := Scalar.addi v31_r0 c1_i32_33_r0
  let v38_r0 : BitVec 32 := Scalar.select v33_r0 v37_r0 v31_r0
  let c4_i32_79_r0 : BitVec 32 := 4#32
  let v85_r0 : BitVec 32 := Scalar.remui v38_r0 c4_i32_79_r0
  let c0_i32_81_r0 : BitVec 32 := 0#32
  let c0_i32_82_r0 : BitVec 32 := 0#32
  ![v85_r0.toNat, 0, 0]
def k0_off8 : Fin 2 → Nat :=
  let c80_i32_80_r0 : BitVec 32 := 80#32
  let true_8_r0 : BitVec 1 := 1#1
  let true_3_r0 : BitVec 1 := 1#1
  let c1_i32_r0 : BitVec 32 := 1#32
  let c0_i32_4_r0 : BitVec 32 := 0#32
  let v6_r0 : BitVec 32 := Scalar.select true_3_r0 c1_i32_r0 c0_i32_4_r0
  let c125_i32_r0 : BitVec 32 := 125#32
  let v7_r0 : BitVec 1 := Scalar.cmpi .eq v6_r0 c125_i32_r0
  let c0_i32_5_r0 : BitVec 32 := 0#32
  let v8_r0 : BitVec 32 := Scalar.select v7_r0 c0_i32_5_r0 v6_r0
  let c1_i32_7_r0 : BitVec 32 := 1#32
  let v10_r0 : BitVec 32 := Scalar.addi v8_r0 c1_i32_7_r0
  let v11_r0 : BitVec 32 := Scalar.select true_8_r0 v10_r0 v8_r0
  let c125_i32_9_r0 : BitVec 32 := 125#32
  let v12_r0 : BitVec 1 := Scalar.cmpi .eq v11_r0 c125_i32_9_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v86_r0 : BitVec 32 := Scalar.muli c80_i32_80_r0 v14_r0
  let c0_i32_83_r0 : BitVec 32 := 0#32
  ![v86_r0.toNat, 0]
@[reducible] def k0_t1_loop : Scf.Loop 32 :=
  let c0_i32_42_r0 : BitVec 32 := 0#32
  let c125_i32_43_r0 : BitVec 32 := 125#32
  let v46_r0 : BitVec 32 := Scalar.addi c0_i32_42_r0 c125_i32_43_r0
  let c1_i32_44_r0 : BitVec 32 := 1#32
  ⟨c0_i32_42_r0, v46_r0, c1_i32_44_r0⟩
def k0_off9 (arg4_r0 : BitVec 32) : Fin 1 → Nat :=
  let c4_i32_141_r0 : BitVec 32 := 4#32
  let v184_r0 : BitVec 32 := Scalar.remui arg4_r0 c4_i32_141_r0
  ![v184_r0.toNat]
def k0_cond3 (k0_t1 : Fin k0_t1_loop.trips) (arg8_r0 : BitVec 32) : BitVec 1 :=
  let true_93_r0 : BitVec 1 := 1#1
  let true_88_r0 : BitVec 1 := 1#1
  let c1_i32_87_r0 : BitVec 32 := 1#32
  let v93_r0 : BitVec 32 := Scalar.addi arg8_r0 c1_i32_87_r0
  let v94_r0 : BitVec 32 := Scalar.select true_88_r0 v93_r0 arg8_r0
  let c125_i32_89_r0 : BitVec 32 := 125#32
  let v95_r0 : BitVec 1 := Scalar.cmpi .eq v94_r0 c125_i32_89_r0
  let c0_i32_90_r0 : BitVec 32 := 0#32
  let v96_r0 : BitVec 32 := Scalar.select v95_r0 c0_i32_90_r0 v94_r0
  let c1_i32_92_r0 : BitVec 32 := 1#32
  let v98_r0 : BitVec 32 := Scalar.addi v96_r0 c1_i32_92_r0
  let v99_r0 : BitVec 32 := Scalar.select true_93_r0 v98_r0 v96_r0
  let c125_i32_94_r0 : BitVec 32 := 125#32
  let v100_r0 : BitVec 1 := Scalar.cmpi .eq v99_r0 c125_i32_94_r0
  let c0_i32_95_r0 : BitVec 32 := 0#32
  let v101_r0 : BitVec 32 := Scalar.select v100_r0 c0_i32_95_r0 v99_r0
  let c0_i32_96_r0 : BitVec 32 := 0#32
  let v102_r0 : BitVec 32 := Scalar.addi v101_r0 c0_i32_96_r0
  let true_98_r0 : BitVec 1 := 1#1
  let c1_i32_97_r0 : BitVec 32 := 1#32
  let v103_r0 : BitVec 32 := Scalar.addi v101_r0 c1_i32_97_r0
  let v104_r0 : BitVec 32 := Scalar.select true_98_r0 v103_r0 v101_r0
  let c125_i32_99_r0 : BitVec 32 := 125#32
  let v105_r0 : BitVec 1 := Scalar.cmpi .eq v104_r0 c125_i32_99_r0
  let c0_i32_100_r0 : BitVec 32 := 0#32
  let v106_r0 : BitVec 32 := Scalar.select v105_r0 c0_i32_100_r0 v104_r0
  let c0_i32_101_r0 : BitVec 32 := 0#32
  let v107_r0 : BitVec 32 := Scalar.addi v106_r0 c0_i32_101_r0
  let v113_r0 : BitVec 1 := Scalar.cmpi .ne v102_r0 v107_r0
  let c0_i32_42_r0 : BitVec 32 := 0#32
  let c1_i32_44_r0 : BitVec 32 := 1#32
  let arg3_r0 : BitVec 32 := Scf.iv c0_i32_42_r0 c1_i32_44_r0 k0_t1
  let c122_i32_r0 : BitVec 32 := 122#32
  let v114_r0 : BitVec 1 := Scalar.cmpi .sge arg3_r0 c122_i32_r0
  let true_107_r0 : BitVec 1 := 1#1
  let v115_r0 : BitVec 1 := Scalar.xori v114_r0 true_107_r0
  let v116_r0 : BitVec 1 := Scalar.andi v113_r0 v115_r0
  let true_108_r0 : BitVec 1 := 1#1
  let v117_r0 : BitVec 1 := Scalar.andi v116_r0 true_108_r0
  let v118_r0 : BitVec 32 := Scalar.extui v117_r0
  let c0_i32_109_r0 : BitVec 32 := 0#32
  let v119_r0 : BitVec 1 := Scalar.cmpi .ne v118_r0 c0_i32_109_r0
  v119_r0

def k0_off10 (arg4_r0 : BitVec 32) : Fin 3 → Nat :=
  let c4_i32_141_r0 : BitVec 32 := 4#32
  let v184_r0 : BitVec 32 := Scalar.remui arg4_r0 c4_i32_141_r0
  let c0_i32_143_r0 : BitVec 32 := 0#32
  let c0_i32_144_r0 : BitVec 32 := 0#32
  ![v184_r0.toNat, 0, 0]
def k0_off11 (arg8_r0 : BitVec 32) : Fin 2 → Nat :=
  let c80_i32_142_r0 : BitVec 32 := 80#32
  let true_98_r0 : BitVec 1 := 1#1
  let true_93_r0 : BitVec 1 := 1#1
  let true_88_r0 : BitVec 1 := 1#1
  let c1_i32_87_r0 : BitVec 32 := 1#32
  let v93_r0 : BitVec 32 := Scalar.addi arg8_r0 c1_i32_87_r0
  let v94_r0 : BitVec 32 := Scalar.select true_88_r0 v93_r0 arg8_r0
  let c125_i32_89_r0 : BitVec 32 := 125#32
  let v95_r0 : BitVec 1 := Scalar.cmpi .eq v94_r0 c125_i32_89_r0
  let c0_i32_90_r0 : BitVec 32 := 0#32
  let v96_r0 : BitVec 32 := Scalar.select v95_r0 c0_i32_90_r0 v94_r0
  let c1_i32_92_r0 : BitVec 32 := 1#32
  let v98_r0 : BitVec 32 := Scalar.addi v96_r0 c1_i32_92_r0
  let v99_r0 : BitVec 32 := Scalar.select true_93_r0 v98_r0 v96_r0
  let c125_i32_94_r0 : BitVec 32 := 125#32
  let v100_r0 : BitVec 1 := Scalar.cmpi .eq v99_r0 c125_i32_94_r0
  let c0_i32_95_r0 : BitVec 32 := 0#32
  let v101_r0 : BitVec 32 := Scalar.select v100_r0 c0_i32_95_r0 v99_r0
  let c1_i32_97_r0 : BitVec 32 := 1#32
  let v103_r0 : BitVec 32 := Scalar.addi v101_r0 c1_i32_97_r0
  let v104_r0 : BitVec 32 := Scalar.select true_98_r0 v103_r0 v101_r0
  let c125_i32_99_r0 : BitVec 32 := 125#32
  let v105_r0 : BitVec 1 := Scalar.cmpi .eq v104_r0 c125_i32_99_r0
  let c0_i32_100_r0 : BitVec 32 := 0#32
  let v106_r0 : BitVec 32 := Scalar.select v105_r0 c0_i32_100_r0 v104_r0
  let c0_i32_101_r0 : BitVec 32 := 0#32
  let v107_r0 : BitVec 32 := Scalar.addi v106_r0 c0_i32_101_r0
  let v185_r0 : BitVec 32 := Scalar.muli c80_i32_142_r0 v107_r0
  let c0_i32_145_r0 : BitVec 32 := 0#32
  ![v185_r0.toNat, 0]
def k0_off12 (arg5_r0 : BitVec 32) : Fin 1 → Nat :=
  let c4_i32_142_r0 : BitVec 32 := 4#32
  let v185_r0 : BitVec 32 := Scalar.remui arg5_r0 c4_i32_142_r0
  ![v185_r0.toNat]
def k0_cond4 (k0_t1 : Fin k0_t1_loop.trips) (arg8_r0 : BitVec 32) : BitVec 1 :=
  let c0_i32_81_r0 : BitVec 32 := 0#32
  let v87_r0 : BitVec 32 := Scalar.addi arg8_r0 c0_i32_81_r0
  let true_83_r0 : BitVec 1 := 1#1
  let c1_i32_82_r0 : BitVec 32 := 1#32
  let v88_r0 : BitVec 32 := Scalar.subi arg8_r0 c1_i32_82_r0
  let v89_r0 : BitVec 32 := Scalar.select true_83_r0 v88_r0 arg8_r0
  let c_m1_i32_84_r0 : BitVec 32 := 4294967295#32
  let v90_r0 : BitVec 1 := Scalar.cmpi .eq v89_r0 c_m1_i32_84_r0
  let c124_i32_85_r0 : BitVec 32 := 124#32
  let v91_r0 : BitVec 32 := Scalar.select v90_r0 c124_i32_85_r0 v89_r0
  let c0_i32_86_r0 : BitVec 32 := 0#32
  let v92_r0 : BitVec 32 := Scalar.addi v91_r0 c0_i32_86_r0
  let v127_r0 : BitVec 1 := Scalar.cmpi .ne v87_r0 v92_r0
  let c0_i32_42_r0 : BitVec 32 := 0#32
  let c1_i32_44_r0 : BitVec 32 := 1#32
  let arg3_r0 : BitVec 32 := Scf.iv c0_i32_42_r0 c1_i32_44_r0 k0_t1
  let c0_i32_79_r0 : BitVec 32 := 0#32
  let v85_r0 : BitVec 1 := Scalar.cmpi .eq arg3_r0 c0_i32_79_r0
  let v128_r0 : BitVec 1 := Scalar.ori v127_r0 v85_r0
  let c0_i32_114_r0 : BitVec 32 := 0#32
  let v129_r0 : BitVec 1 := Scalar.cmpi .sge arg3_r0 c0_i32_114_r0
  let v130_r0 : BitVec 1 := Scalar.andi v128_r0 v129_r0
  let v131_r0 : BitVec 32 := Scalar.extui v130_r0
  let c0_i32_115_r0 : BitVec 32 := 0#32
  let v132_r0 : BitVec 1 := Scalar.cmpi .ne v131_r0 c0_i32_115_r0
  v132_r0

def k0_off13 (arg5_r0 : BitVec 32) : Fin 3 → Nat :=
  let c4_i32_142_r0 : BitVec 32 := 4#32
  let v185_r0 : BitVec 32 := Scalar.remui arg5_r0 c4_i32_142_r0
  let c0_i32_143_r0 : BitVec 32 := 0#32
  let c0_i32_144_r0 : BitVec 32 := 0#32
  ![v185_r0.toNat, 0, 0]
def k0_off14 (arg8_r0 : BitVec 32) : Fin 2 → Nat :=
  let c80_i32_141_r0 : BitVec 32 := 80#32
  let c0_i32_81_r0 : BitVec 32 := 0#32
  let v87_r0 : BitVec 32 := Scalar.addi arg8_r0 c0_i32_81_r0
  let v184_r0 : BitVec 32 := Scalar.muli c80_i32_141_r0 v87_r0
  let c0_i32_145_r0 : BitVec 32 := 0#32
  ![v184_r0.toNat, 0]
def k0_off15 (arg5_r0 : BitVec 32) : Fin 3 → Nat :=
  let c4_i32_118_r0 : BitVec 32 := 4#32
  let v139_r0 : BitVec 32 := Scalar.remui arg5_r0 c4_i32_118_r0
  let v141_r0 : Index := Scalar.indexCast v139_r0
  let c0_r0 : Index := 0#32
  let c0_120_r0 : Index := 0#32
  ![v141_r0.toNat, 0, 0]

def k0_chk2 (arg5_r0 : BitVec 32) : Prop :=
  (∀ a, (k0_off15 arg5_r0) a + S1x80x10000.size a ≤ S4x80x10000.size a)
theorem k0_off15_inb : ∀ (arg5_r0 : BitVec 32) (k0_hw2 : k0_chk2 arg5_r0), ∀ a, (k0_off15 arg5_r0) a + S1x80x10000.size a ≤ S4x80x10000.size a := fun arg5_r0 k0_hw2 => k0_hw2

def k0_off16 (arg6_r0 : BitVec 32) : Fin 3 → Nat :=
  let c2_i32_119_r0 : BitVec 32 := 2#32
  let v140_r0 : BitVec 32 := Scalar.remui arg6_r0 c2_i32_119_r0
  let v146_r0 : Index := Scalar.indexCast v140_r0
  let c0_123_r0 : Index := 0#32
  let c0_124_r0 : Index := 0#32
  ![v146_r0.toNat, 0, 0]

def k0_chk3 (arg6_r0 : BitVec 32) : Prop :=
  (∀ a, (k0_off16 arg6_r0) a + S1x80x128.size a ≤ S2x80x128.size a)
theorem k0_off16_inb : ∀ (arg6_r0 : BitVec 32) (k0_hw3 : k0_chk3 arg6_r0), ∀ a, (k0_off16 arg6_r0) a + S1x80x128.size a ≤ S2x80x128.size a := fun arg6_r0 k0_hw3 => k0_hw3

def k0_off17 (arg6_r0 : BitVec 32) : Fin 1 → Nat :=
  let c2_i32_141_r0 : BitVec 32 := 2#32
  let v184_r0 : BitVec 32 := Scalar.remui arg6_r0 c2_i32_141_r0
  ![v184_r0.toNat]
def k0_cond7 (k0_t1 : Fin k0_t1_loop.trips) (arg8_r0 : BitVec 32) : BitVec 1 :=
  let c0_i32_81_r0 : BitVec 32 := 0#32
  let v87_r0 : BitVec 32 := Scalar.addi arg8_r0 c0_i32_81_r0
  let true_88_r0 : BitVec 1 := 1#1
  let c1_i32_87_r0 : BitVec 32 := 1#32
  let v93_r0 : BitVec 32 := Scalar.addi arg8_r0 c1_i32_87_r0
  let v94_r0 : BitVec 32 := Scalar.select true_88_r0 v93_r0 arg8_r0
  let c125_i32_89_r0 : BitVec 32 := 125#32
  let v95_r0 : BitVec 1 := Scalar.cmpi .eq v94_r0 c125_i32_89_r0
  let c0_i32_90_r0 : BitVec 32 := 0#32
  let v96_r0 : BitVec 32 := Scalar.select v95_r0 c0_i32_90_r0 v94_r0
  let c0_i32_91_r0 : BitVec 32 := 0#32
  let v97_r0 : BitVec 32 := Scalar.addi v96_r0 c0_i32_91_r0
  let v155_r0 : BitVec 1 := Scalar.cmpi .ne v87_r0 v97_r0
  let c0_i32_42_r0 : BitVec 32 := 0#32
  let c1_i32_44_r0 : BitVec 32 := 1#32
  let arg3_r0 : BitVec 32 := Scf.iv c0_i32_42_r0 c1_i32_44_r0 k0_t1
  let c124_i32_80_r0 : BitVec 32 := 124#32
  let v86_r0 : BitVec 1 := Scalar.cmpi .eq arg3_r0 c124_i32_80_r0
  let v156_r0 : BitVec 1 := Scalar.ori v155_r0 v86_r0
  let v157_r0 : BitVec 32 := Scalar.extui v156_r0
  let c0_i32_126_r0 : BitVec 32 := 0#32
  let v158_r0 : BitVec 1 := Scalar.cmpi .ne v157_r0 c0_i32_126_r0
  v158_r0

def k0_off18 (arg8_r0 : BitVec 32) : Fin 2 → Nat :=
  let c80_i32_142_r0 : BitVec 32 := 80#32
  let c0_i32_81_r0 : BitVec 32 := 0#32
  let v87_r0 : BitVec 32 := Scalar.addi arg8_r0 c0_i32_81_r0
  let v185_r0 : BitVec 32 := Scalar.muli c80_i32_142_r0 v87_r0
  let c0_i32_143_r0 : BitVec 32 := 0#32
  ![v185_r0.toNat, 0]
def k0_off19 (arg6_r0 : BitVec 32) : Fin 3 → Nat :=
  let c2_i32_141_r0 : BitVec 32 := 2#32
  let v184_r0 : BitVec 32 := Scalar.remui arg6_r0 c2_i32_141_r0
  let c0_i32_144_r0 : BitVec 32 := 0#32
  let c0_i32_145_r0 : BitVec 32 := 0#32
  ![v184_r0.toNat, 0, 0]
def k0_off20 (arg7_r0 : BitVec 32) : Fin 1 → Nat :=
  let c2_i32_141_r0 : BitVec 32 := 2#32
  let v184_r0 : BitVec 32 := Scalar.remui arg7_r0 c2_i32_141_r0
  ![v184_r0.toNat]
def k0_cond9 (k0_t1 : Fin k0_t1_loop.trips) (arg8_r0 : BitVec 32) : BitVec 1 :=
  let c0_i32_81_r0 : BitVec 32 := 0#32
  let v87_r0 : BitVec 32 := Scalar.addi arg8_r0 c0_i32_81_r0
  let true_83_r0 : BitVec 1 := 1#1
  let c1_i32_82_r0 : BitVec 32 := 1#32
  let v88_r0 : BitVec 32 := Scalar.subi arg8_r0 c1_i32_82_r0
  let v89_r0 : BitVec 32 := Scalar.select true_83_r0 v88_r0 arg8_r0
  let c_m1_i32_84_r0 : BitVec 32 := 4294967295#32
  let v90_r0 : BitVec 1 := Scalar.cmpi .eq v89_r0 c_m1_i32_84_r0
  let c124_i32_85_r0 : BitVec 32 := 124#32
  let v91_r0 : BitVec 32 := Scalar.select v90_r0 c124_i32_85_r0 v89_r0
  let c0_i32_86_r0 : BitVec 32 := 0#32
  let v92_r0 : BitVec 32 := Scalar.addi v91_r0 c0_i32_86_r0
  let v168_r0 : BitVec 1 := Scalar.cmpi .ne v87_r0 v92_r0
  let c0_i32_42_r0 : BitVec 32 := 0#32
  let c1_i32_44_r0 : BitVec 32 := 1#32
  let arg3_r0 : BitVec 32 := Scf.iv c0_i32_42_r0 c1_i32_44_r0 k0_t1
  let c0_i32_79_r0 : BitVec 32 := 0#32
  let v85_r0 : BitVec 1 := Scalar.cmpi .eq arg3_r0 c0_i32_79_r0
  let true_132_r0 : BitVec 1 := 1#1
  let v169_r0 : BitVec 1 := Scalar.xori v85_r0 true_132_r0
  let v170_r0 : BitVec 1 := Scalar.andi v168_r0 v169_r0
  let v171_r0 : BitVec 32 := Scalar.extui v170_r0
  let c0_i32_133_r0 : BitVec 32 := 0#32
  let v172_r0 : BitVec 1 := Scalar.cmpi .ne v171_r0 c0_i32_133_r0
  v172_r0

def k0_off21 (arg8_r0 : BitVec 32) : Fin 2 → Nat :=
  let c80_i32_142_r0 : BitVec 32 := 80#32
  let true_83_r0 : BitVec 1 := 1#1
  let c1_i32_82_r0 : BitVec 32 := 1#32
  let v88_r0 : BitVec 32 := Scalar.subi arg8_r0 c1_i32_82_r0
  let v89_r0 : BitVec 32 := Scalar.select true_83_r0 v88_r0 arg8_r0
  let c_m1_i32_84_r0 : BitVec 32 := 4294967295#32
  let v90_r0 : BitVec 1 := Scalar.cmpi .eq v89_r0 c_m1_i32_84_r0
  let c124_i32_85_r0 : BitVec 32 := 124#32
  let v91_r0 : BitVec 32 := Scalar.select v90_r0 c124_i32_85_r0 v89_r0
  let c0_i32_86_r0 : BitVec 32 := 0#32
  let v92_r0 : BitVec 32 := Scalar.addi v91_r0 c0_i32_86_r0
  let v185_r0 : BitVec 32 := Scalar.muli c80_i32_142_r0 v92_r0
  let c0_i32_143_r0 : BitVec 32 := 0#32
  ![v185_r0.toNat, 0]
def k0_off22 (arg7_r0 : BitVec 32) : Fin 3 → Nat :=
  let c2_i32_141_r0 : BitVec 32 := 2#32
  let v184_r0 : BitVec 32 := Scalar.remui arg7_r0 c2_i32_141_r0
  let c0_i32_144_r0 : BitVec 32 := 0#32
  let c0_i32_145_r0 : BitVec 32 := 0#32
  ![v184_r0.toNat, 0, 0]

def k0_chk1 (k0_t1 : Fin k0_t1_loop.trips) (arg4_r0 : BitVec 32) (arg5_r0 : BitVec 32) (arg6_r0 : BitVec 32) (arg7_r0 : BitVec 32) (arg8_r0 : BitVec 32) : Prop :=
  (∀ (k0_h3 : k0_cond3 k0_t1 arg8_r0 = 1#1), ∀ a, (k0_off9 arg4_r0) a + S1.size a ≤ S4.size a) ∧
  (∀ (k0_h3 : k0_cond3 k0_t1 arg8_r0 = 1#1), ∀ a, (k0_off10 arg4_r0) a + S1x80x10000.size a ≤ S4x80x10000.size a) ∧
  (∀ (k0_h3 : k0_cond3 k0_t1 arg8_r0 = 1#1), ∀ a, (k0_off11 arg8_r0) a + S80x10000.size a ≤ S10000x10000.size a) ∧
  (∀ (k0_h4 : k0_cond4 k0_t1 arg8_r0 = 1#1), ∀ a, (k0_off12 arg5_r0) a + S1.size a ≤ S4.size a) ∧
  (∀ (k0_h4 : k0_cond4 k0_t1 arg8_r0 = 1#1), ∀ a, (k0_off13 arg5_r0) a + S1x80x10000.size a ≤ S4x80x10000.size a) ∧
  (∀ (k0_h4 : k0_cond4 k0_t1 arg8_r0 = 1#1), ∀ a, (k0_off14 arg8_r0) a + S80x10000.size a ≤ S10000x10000.size a) ∧
  (∀ (k0_h7 : k0_cond7 k0_t1 arg8_r0 = 1#1), ∀ a, (k0_off17 arg6_r0) a + S1.size a ≤ S2.size a) ∧
  (∀ (k0_h7 : k0_cond7 k0_t1 arg8_r0 = 1#1), ∀ a, (k0_off18 arg8_r0) a + S80x128.size a ≤ S10000x128.size a) ∧
  (∀ (k0_h7 : k0_cond7 k0_t1 arg8_r0 = 1#1), ∀ a, (k0_off19 arg6_r0) a + S1x80x128.size a ≤ S2x80x128.size a) ∧
  (∀ (k0_h9 : k0_cond9 k0_t1 arg8_r0 = 1#1), ∀ a, (k0_off20 arg7_r0) a + S1.size a ≤ S2.size a) ∧
  (∀ (k0_h9 : k0_cond9 k0_t1 arg8_r0 = 1#1), ∀ a, (k0_off21 arg8_r0) a + S80x128.size a ≤ S10000x128.size a) ∧
  (∀ (k0_h9 : k0_cond9 k0_t1 arg8_r0 = 1#1), ∀ a, (k0_off22 arg7_r0) a + S1x80x128.size a ≤ S2x80x128.size a)
theorem k0_off9_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h3 : k0_cond3 k0_t1 arg8_r0 = 1#1), ∀ a, (k0_off9 arg4_r0) a + S1.size a ≤ S4.size a := fun k0_t1 arg4_r0 arg5_r0 arg6_r0 arg7_r0 arg8_r0 k0_hw1 k0_h3 => k0_hw1.1 k0_h3
theorem k0_off10_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h3 : k0_cond3 k0_t1 arg8_r0 = 1#1), ∀ a, (k0_off10 arg4_r0) a + S1x80x10000.size a ≤ S4x80x10000.size a := fun k0_t1 arg4_r0 arg5_r0 arg6_r0 arg7_r0 arg8_r0 k0_hw1 k0_h3 => k0_hw1.2.1 k0_h3
theorem k0_off11_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h3 : k0_cond3 k0_t1 arg8_r0 = 1#1), ∀ a, (k0_off11 arg8_r0) a + S80x10000.size a ≤ S10000x10000.size a := fun k0_t1 arg4_r0 arg5_r0 arg6_r0 arg7_r0 arg8_r0 k0_hw1 k0_h3 => k0_hw1.2.2.1 k0_h3
theorem k0_off12_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h4 : k0_cond4 k0_t1 arg8_r0 = 1#1), ∀ a, (k0_off12 arg5_r0) a + S1.size a ≤ S4.size a := fun k0_t1 arg4_r0 arg5_r0 arg6_r0 arg7_r0 arg8_r0 k0_hw1 k0_h4 => k0_hw1.2.2.2.1 k0_h4
theorem k0_off13_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h4 : k0_cond4 k0_t1 arg8_r0 = 1#1), ∀ a, (k0_off13 arg5_r0) a + S1x80x10000.size a ≤ S4x80x10000.size a := fun k0_t1 arg4_r0 arg5_r0 arg6_r0 arg7_r0 arg8_r0 k0_hw1 k0_h4 => k0_hw1.2.2.2.2.1 k0_h4
theorem k0_off14_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h4 : k0_cond4 k0_t1 arg8_r0 = 1#1), ∀ a, (k0_off14 arg8_r0) a + S80x10000.size a ≤ S10000x10000.size a := fun k0_t1 arg4_r0 arg5_r0 arg6_r0 arg7_r0 arg8_r0 k0_hw1 k0_h4 => k0_hw1.2.2.2.2.2.1 k0_h4
theorem k0_off17_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h7 : k0_cond7 k0_t1 arg8_r0 = 1#1), ∀ a, (k0_off17 arg6_r0) a + S1.size a ≤ S2.size a := fun k0_t1 arg4_r0 arg5_r0 arg6_r0 arg7_r0 arg8_r0 k0_hw1 k0_h7 => k0_hw1.2.2.2.2.2.2.1 k0_h7
theorem k0_off18_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h7 : k0_cond7 k0_t1 arg8_r0 = 1#1), ∀ a, (k0_off18 arg8_r0) a + S80x128.size a ≤ S10000x128.size a := fun k0_t1 arg4_r0 arg5_r0 arg6_r0 arg7_r0 arg8_r0 k0_hw1 k0_h7 => k0_hw1.2.2.2.2.2.2.2.1 k0_h7
theorem k0_off19_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h7 : k0_cond7 k0_t1 arg8_r0 = 1#1), ∀ a, (k0_off19 arg6_r0) a + S1x80x128.size a ≤ S2x80x128.size a := fun k0_t1 arg4_r0 arg5_r0 arg6_r0 arg7_r0 arg8_r0 k0_hw1 k0_h7 => k0_hw1.2.2.2.2.2.2.2.2.1 k0_h7
theorem k0_off20_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h9 : k0_cond9 k0_t1 arg8_r0 = 1#1), ∀ a, (k0_off20 arg7_r0) a + S1.size a ≤ S2.size a := fun k0_t1 arg4_r0 arg5_r0 arg6_r0 arg7_r0 arg8_r0 k0_hw1 k0_h9 => k0_hw1.2.2.2.2.2.2.2.2.2.1 k0_h9
theorem k0_off21_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h9 : k0_cond9 k0_t1 arg8_r0 = 1#1), ∀ a, (k0_off21 arg8_r0) a + S80x128.size a ≤ S10000x128.size a := fun k0_t1 arg4_r0 arg5_r0 arg6_r0 arg7_r0 arg8_r0 k0_hw1 k0_h9 => k0_hw1.2.2.2.2.2.2.2.2.2.2.1 k0_h9
theorem k0_off22_inb : ∀ (k0_t1 : Fin k0_t1_loop.trips) (arg4_r0 : BitVec 32) (arg5_r0 : BitVec 32) (arg6_r0 : BitVec 32) (arg7_r0 : BitVec 32) (arg8_r0 : BitVec 32) (k0_hw1 : k0_chk1 k0_t1 arg4_r0 arg5_r0 arg6_r0 arg7_r0 arg8_r0), ∀ (k0_h9 : k0_cond9 k0_t1 arg8_r0 = 1#1), ∀ a, (k0_off22 arg7_r0) a + S1x80x128.size a ≤ S2x80x128.size a := fun k0_t1 arg4_r0 arg5_r0 arg6_r0 arg7_r0 arg8_r0 k0_hw1 k0_h9 => k0_hw1.2.2.2.2.2.2.2.2.2.2.2 k0_h9

def k0_off23 (v47_3_r0 : BitVec 32) : Fin 1 → Nat :=
  let c2_i32_r0 : BitVec 32 := 2#32
  let v78_r0 : BitVec 32 := Scalar.remui v47_3_r0 c2_i32_r0
  ![v78_r0.toNat]

def k0_off24 (v47_4_r0 : BitVec 32) : Fin 2 → Nat :=
  let c80_i32_r0 : BitVec 32 := 80#32
  let true_47_r0 : BitVec 1 := 1#1
  let c1_i32_46_r0 : BitVec 32 := 1#32
  let v48_r0 : BitVec 32 := Scalar.subi v47_4_r0 c1_i32_46_r0
  let v49_r0 : BitVec 32 := Scalar.select true_47_r0 v48_r0 v47_4_r0
  let c_m1_i32_48_r0 : BitVec 32 := 4294967295#32
  let v50_r0 : BitVec 1 := Scalar.cmpi .eq v49_r0 c_m1_i32_48_r0
  let c124_i32_49_r0 : BitVec 32 := 124#32
  let v51_r0 : BitVec 32 := Scalar.select v50_r0 c124_i32_49_r0 v49_r0
  let c0_i32_50_r0 : BitVec 32 := 0#32
  let v52_r0 : BitVec 32 := Scalar.addi v51_r0 c0_i32_50_r0
  let v79_r0 : BitVec 32 := Scalar.muli c80_i32_r0 v52_r0
  let c0_i32_76_r0 : BitVec 32 := 0#32
  ![v79_r0.toNat, 0]

def k0_chk5 (v47_4_r0 : BitVec 32) : Prop :=
  (∀ a, (k0_off24 v47_4_r0) a + S80x128.size a ≤ S10000x128.size a)
theorem k0_off24_inb : ∀ (v47_4_r0 : BitVec 32) (k0_hw5 : k0_chk5 v47_4_r0), ∀ a, (k0_off24 v47_4_r0) a + S80x128.size a ≤ S10000x128.size a := fun v47_4_r0 k0_hw5 => k0_hw5

def k0_off25 (v47_3_r0 : BitVec 32) : Fin 3 → Nat :=
  let c2_i32_r0 : BitVec 32 := 2#32
  let v78_r0 : BitVec 32 := Scalar.remui v47_3_r0 c2_i32_r0
  let c0_i32_77_r0 : BitVec 32 := 0#32
  let c0_i32_78_r0 : BitVec 32 := 0#32
  ![v78_r0.toNat, 0, 0]

def k0_chk4 (v47_3_r0 : BitVec 32) : Prop :=
  (∀ a, (k0_off23 v47_3_r0) a + S1.size a ≤ S2.size a) ∧
  (∀ a, (k0_off25 v47_3_r0) a + S1x80x128.size a ≤ S2x80x128.size a)
theorem k0_off23_inb : ∀ (v47_3_r0 : BitVec 32) (k0_hw4 : k0_chk4 v47_3_r0), ∀ a, (k0_off23 v47_3_r0) a + S1.size a ≤ S2.size a := fun v47_3_r0 k0_hw4 => k0_hw4.1
theorem k0_off25_inb : ∀ (v47_3_r0 : BitVec 32) (k0_hw4 : k0_chk4 v47_3_r0), ∀ a, (k0_off25 v47_3_r0) a + S1x80x128.size a ≤ S2x80x128.size a := fun v47_3_r0 k0_hw4 => k0_hw4.2

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S10000x10000 : Shape := ⟨2, ![10000, 10000]⟩
abbrev S10000x128 : Shape := ⟨2, ![10000, 128]⟩

abbrev nBuf : Space → Nat
  | .hbm => 3
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Words.lean ====
/- The control words of the kernel's loop. The loop runs 125 trips and carries five words: the number of blocks fetched so
   far, the number awaited, the number of result blocks sent, the number of those awaited, and the block index. Before trip
   `k` they are the words below; every offset, condition and side condition the kernel computes from them is evaluated here
   once for all trips. -/
module

public import proofs.«01_k».proof.Defs
public import proofs.«01_k».proof.Proof.Gen.KernelIdeal
public import proofs.«01_k».proof.Proof.Gen.KernelIdeal.Skeleton
public import Idealize.ShloMosaic.Lib.Ring

@[expose] public section

namespace Cert.Adj

open Cert.KernelIdeal Cert.KernelIdeal.Gen
open Idealize.ShloMosaic

/-- The blocks fetched before trip `k`: three ahead, never more than all of them. -/
def wFetch (k : ℕ) : BitVec 32 := BitVec.ofNat 32 (min (k + 3) 125)
/-- The blocks awaited before trip `k` (and the result blocks sent). -/
def wStep (k : ℕ) : BitVec 32 := BitVec.ofNat 32 k
/-- The result blocks awaited before trip `k`: one behind. -/
def wBack (k : ℕ) : BitVec 32 := BitVec.ofNat 32 (k - 1)
/-- The block index of trip `k`, wrapped to 0 after the last. -/
def wIdx (k : ℕ) : BitVec 32 := BitVec.ofNat 32 (k % 125)
/-- The five words the loop carries before trip `k`. -/
def acc (k : ℕ) : BitVec 32 × BitVec 32 × BitVec 32 × BitVec 32 × BitVec 32 := (wFetch k, wStep k, wStep k, wBack k, wIdx k)

/-- Rows `80 b … 80 b + 79` of a matrix of 10000 rows. -/
abbrev blkOff (b : Fin 125) : Fin 2 → ℕ := ![80 * b.val, 0]
/-- Slot `s` of a ring of slots. -/
abbrev slotOff {n : ℕ} (s : Fin n) : Fin 3 → ℕ := ![s.val, 0, 0]
/-- Semaphore `s` of a ring. -/
abbrev semOff {n : ℕ} (s : Fin n) : Fin 1 → ℕ := ![s.val]

/-- The loop runs once per block. -/
theorem trips_eq : k0_t1_loop.trips = 125 := by decide +kernel

/-! ## The offsets -/

theorem off9_eq : ∀ k : Fin k0_t1_loop.trips, k.val + 3 < 125 → k0_off9 (wFetch k.val) = semOff (Ring.sl 4 (k.val + 3)) := by decide +kernel
theorem off10_eq : ∀ k : Fin k0_t1_loop.trips, k.val + 3 < 125 → k0_off10 (wFetch k.val) = slotOff (Ring.sl 4 (k.val + 3)) := by decide +kernel
theorem off11_eq : ∀ k : Fin k0_t1_loop.trips, k.val + 3 < 125 → k0_off11 (wIdx k.val) = blkOff (Ring.bk 125 (k.val + 3)) := by decide +kernel
theorem off12_eq : ∀ k : Fin k0_t1_loop.trips, k0_off12 (wStep k.val) = semOff (Ring.sl 4 k.val) := by decide +kernel
theorem off13_eq : ∀ k : Fin k0_t1_loop.trips, k0_off13 (wStep k.val) = slotOff (Ring.sl 4 k.val) := by decide +kernel
theorem off14_eq : ∀ k : Fin k0_t1_loop.trips, k0_off14 (wIdx k.val) = blkOff (Ring.bk 125 k.val) := by decide +kernel
theorem off15_eq : ∀ k : Fin k0_t1_loop.trips, k0_off15 (wStep k.val) = slotOff (Ring.sl 4 k.val) := by decide +kernel
theorem off16_eq : ∀ k : Fin k0_t1_loop.trips, k0_off16 (wStep k.val) = slotOff (Ring.sl 2 k.val) := by decide +kernel
theorem off17_eq : ∀ k : Fin k0_t1_loop.trips, k0_off17 (wStep k.val) = semOff (Ring.sl 2 k.val) := by decide +kernel
theorem off18_eq : ∀ k : Fin k0_t1_loop.trips, k0_off18 (wIdx k.val) = blkOff (Ring.bk 125 k.val) := by decide +kernel
theorem off19_eq : ∀ k : Fin k0_t1_loop.trips, k0_off19 (wStep k.val) = slotOff (Ring.sl 2 k.val) := by decide +kernel
theorem off20_eq : ∀ k : Fin k0_t1_loop.trips, 1 ≤ k.val → k0_off20 (wBack k.val) = semOff (Ring.sl 2 (k.val + 1)) := by decide +kernel
theorem off21_eq : ∀ k : Fin k0_t1_loop.trips, 1 ≤ k.val → k0_off21 (wIdx k.val) = blkOff (Ring.bk 125 (k.val - 1)) := by decide +kernel
theorem off22_eq : ∀ k : Fin k0_t1_loop.trips, 1 ≤ k.val → k0_off22 (wBack k.val) = slotOff (Ring.sl 2 (k.val + 1)) := by decide +kernel

/-- After the last trip: the last result block is still in flight, from slot 0. -/
theorem off23_eq : k0_off23 (wBack 125) = semOff (0 : Fin 2) := by decide +kernel
theorem off24_eq : k0_off24 (wIdx 125) = blkOff (124 : Fin 125) := by decide +kernel
theorem off25_eq : k0_off25 (wBack 125) = slotOff (0 : Fin 2) := by decide +kernel

/-! ## The conditions: a fetch until three blocks remain, a wait and a send at every trip, a wait behind from trip 1 -/

theorem cond3_holds : ∀ k : Fin k0_t1_loop.trips, k.val + 3 < 125 → k0_cond3 k (wIdx k.val) = 1#1 := by decide +kernel
theorem cond3_fails : ∀ k : Fin k0_t1_loop.trips, ¬k.val + 3 < 125 → ¬k0_cond3 k (wIdx k.val) = 1#1 := by decide +kernel
theorem cond4_holds : ∀ k : Fin k0_t1_loop.trips, k0_cond4 k (wIdx k.val) = 1#1 := by decide +kernel
theorem cond7_holds : ∀ k : Fin k0_t1_loop.trips, k0_cond7 k (wIdx k.val) = 1#1 := by decide +kernel
theorem cond9_holds : ∀ k : Fin k0_t1_loop.trips, 1 ≤ k.val → k0_cond9 k (wIdx k.val) = 1#1 := by decide +kernel
theorem cond9_fails : ∀ k : Fin k0_t1_loop.trips, k.val = 0 → ¬k0_cond9 k (wIdx k.val) = 1#1 := by decide +kernel

/-! ## The side conditions -/

theorem chk1_holds : ∀ k : Fin k0_t1_loop.trips, k0_chk1 k (wFetch k.val) (wStep k.val) (wStep k.val) (wBack k.val) (wIdx k.val) := by
  decide +kernel
theorem chk2_holds : ∀ k : Fin k0_t1_loop.trips, k0_chk2 (wStep k.val) := by decide +kernel
theorem chk3_holds : ∀ k : Fin k0_t1_loop.trips, k0_chk3 (wStep k.val) := by decide +kernel
theorem chk4_holds : k0_chk4 (wBack 125) := by decide +kernel
theorem chk5_holds : k0_chk5 (wIdx 125) := by decide +kernel

end Cert.Adj

end
-- ==== Proof.Slots.lean ====
/- Names for the pieces of memory the kernel moves: row block `b` of the matrix and of the result, the slots of the input
   ring and of the output ring, their semaphores. Each access the kernel makes is rewritten to one of these names. -/
module

public import proofs.«01_k».proof.Proof.Words
public import proofs.«01_k».proof.Proof.Gen.KernelIdeal.Launch
public import proofs.«01_k».proof.Proof.Gen.KernelIdeal.Loops
public import Idealize.ShloMosaic.Lib.Pipeline.KitQuiescent
public import Idealize.ShloMosaic.Lib.Ring
public import Idealize.ShloMosaic.Lib.Ring.AtN
public import Idealize.ShloMosaic.Lib.Ring.WriteBehind
public import Idealize.ShloMosaic.Lib.Affine
public import Idealize.ShloMosaic.Lib.Tactic

@[expose] public section

noncomputable section

namespace Cert.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the launch, with counters for the kernel's own transfers. -/
abbrev UU (nD : ℕ) (τ : Topo) : Type := UR sig nD τ × Counters
local notation "𝕄" => MT nD τ sig Unit (Elt F) ℕ (UU nD τ) ℕ
abbrev 𝒱₀ : Variants := Variants.none

/-! ## The buffers whole -/

/-- The matrix, in HBM. -/
abbrev aM : Memref sig .tc .hbm S10000x10000 .f32 := Memref.whole main_arg0
/-- The result, in HBM. -/
abbrev oM : Memref sig .tc .hbm S10000x128 .f32 := Memref.whole main_v0
/-- The ring of four matrix blocks. -/
abbrev rM : Memref sig .tc .vmem S4x80x10000 .f32 := Memref.whole cc0_scoped0
/-- The ring of two result blocks. -/
abbrev wM : Memref sig .tc .vmem S2x80x128 .f32 := Memref.whole cc0_scoped2

/-! ## The pieces -/

theorem ablk_inb (b : Fin 125) : ∀ a, blkOff b a + S80x10000.size a ≤ S10000x10000.size a := by
  have := b.isLt; intro a; fin_cases a
  · show 80 * b.val + 80 ≤ 10000; omega
  · show 0 + 10000 ≤ 10000; omega
theorem oblk_inb (b : Fin 125) : ∀ a, blkOff b a + S80x128.size a ≤ S10000x128.size a := by
  have := b.isLt; intro a; fin_cases a
  · show 80 * b.val + 80 ≤ 10000; omega
  · show 0 + 128 ≤ 128; omega
theorem rslot_inb (s : Fin 4) : ∀ a, slotOff s a + S1x80x10000.size a ≤ S4x80x10000.size a := by
  have := s.isLt; intro a; fin_cases a
  · show s.val + 1 ≤ 4; omega
  · show 0 + 80 ≤ 80; omega
  · show 0 + 10000 ≤ 10000; omega
theorem wslot_inb (s : Fin 2) : ∀ a, slotOff s a + S1x80x128.size a ≤ S2x80x128.size a := by
  have := s.isLt; intro a; fin_cases a
  · show s.val + 1 ≤ 2; omega
  · show 0 + 80 ≤ 80; omega
  · show 0 + 128 ≤ 128; omega
theorem rsem_inb (s : Fin 4) : ∀ a, semOff s a + S1.size a ≤ S4.size a := by
  have := s.isLt; intro a; fin_cases a; show s.val + 1 ≤ 4; omega
theorem wsem_inb (s : Fin 2) : ∀ a, semOff s a + S1.size a ≤ S2.size a := by
  have := s.isLt; intro a; fin_cases a; show s.val + 1 ≤ 2; omega

/-- Row block `b` of the matrix. -/
def ablk (b : Fin 125) : Memref sig .tc .hbm S80x10000 .f32 :=
  aM.slice (Rect.unit (s := S10000x10000) (blkOff b) S80x10000.size (ablk_inb b)) (fun _ => rfl)
/-- Row block `b` of the result. -/
def oblk (b : Fin 125) : Memref sig .tc .hbm S80x128 .f32 :=
  oM.slice (Rect.unit (s := S10000x128) (blkOff b) S80x128.size (oblk_inb b)) (fun _ => rfl)
/-- Slot `s` of the input ring. -/
def rslot (s : Fin 4) : Memref sig .tc .vmem S80x10000 .f32 :=
  (rM.slice (Rect.unit (s := S4x80x10000) (slotOff s) S1x80x10000.size (rslot_inb s)) (fun _ => rfl)).squeeze S80x10000 squeezes_S1x80x10000_S80x10000
/-- Slot `s` of the output ring. -/
def wslot (s : Fin 2) : Memref sig .tc .vmem S80x128 .f32 :=
  (wM.slice (Rect.unit (s := S2x80x128) (slotOff s) S1x80x128.size (wslot_inb s)) (fun _ => rfl)).squeeze S80x128 squeezes_S1x80x128_S80x128
/-- The semaphore of input slot `s`. -/
def rsem (s : Fin 4) : DmaSems sig S_ := (cc0_scoped1.slice (Rect.unit (s := S4) (semOff s) S1.size (rsem_inb s))).squeeze S_ squeezes_S1_S_
/-- The semaphore of output slot `s`. -/
def wsem (s : Fin 2) : DmaSems sig S_ := (cc0_scoped3.slice (Rect.unit (s := S2) (semOff s) S1.size (wsem_inb s))).squeeze S_ squeezes_S1_S_

instance {n : ℕ} (s : Fin n) : ClosedOff (slotOff s) := ⟨slotOff s, rfl⟩
instance (b : Fin 125) : ClosedOff (blkOff b) := ⟨blkOff b, rfl⟩
instance (k : Fin k0_t1_loop.trips) : ClosedOff (k0_off15 (wStep k.val)) := ⟨slotOff (Ring.sl 4 k.val), off15_eq k⟩
instance (k : Fin k0_t1_loop.trips) : ClosedOff (k0_off16 (wStep k.val)) := ⟨slotOff (Ring.sl 2 k.val), off16_eq k⟩

/-! ## An access at offsets equal to a piece's is that piece -/

theorem ablk_congr {off : Fin 2 → ℕ} {b : Fin 125} (e : off = blkOff b) (hh hs) :
    aM.slice (Rect.unit (s := S10000x10000) off S80x10000.size hh) hs = ablk b := Memref.slice_unit_congr _ e _ _ _ (fun _ => rfl)
theorem oblk_congr {off : Fin 2 → ℕ} {b : Fin 125} (e : off = blkOff b) (hh hs) :
    oM.slice (Rect.unit (s := S10000x128) off S80x128.size hh) hs = oblk b := Memref.slice_unit_congr _ e _ _ _ (fun _ => rfl)
theorem rslot_congr {off : Fin 3 → ℕ} {s : Fin 4} (e : off = slotOff s) (hh hs) :
    (rM.slice (Rect.unit (s := S4x80x10000) off S1x80x10000.size hh) hs).squeeze S80x10000 squeezes_S1x80x10000_S80x10000 = rslot s :=
  congrArg (fun M : Memref sig .tc .vmem S1x80x10000 .f32 => M.squeeze S80x10000 squeezes_S1x80x10000_S80x10000) (Memref.slice_unit_congr _ e _ _ _ _)
theorem wslot_congr {off : Fin 3 → ℕ} {s : Fin 2} (e : off = slotOff s) (hh hs) :
    (wM.slice (Rect.unit (s := S2x80x128) off S1x80x128.size hh) hs).squeeze S80x128 squeezes_S1x80x128_S80x128 = wslot s :=
  congrArg (fun M : Memref sig .tc .vmem S1x80x128 .f32 => M.squeeze S80x128 squeezes_S1x80x128_S80x128) (Memref.slice_unit_congr _ e _ _ _ _)
theorem rsem_congr {off : Fin 1 → ℕ} {s : Fin 4} (e : off = semOff s) (hh) :
    (cc0_scoped1.slice (Rect.unit (s := S4) off S1.size hh)).squeeze S_ squeezes_S1_S_ = rsem s :=
  congrArg (fun A : DmaSems sig S1 => A.squeeze S_ squeezes_S1_S_) (SemArray.slice_unit_congr _ e _ _)
theorem wsem_congr {off : Fin 1 → ℕ} {s : Fin 2} (e : off = semOff s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)

/-! ## The three fetches before the loop -/

@[sl_canon] theorem ablk_pre0 (hh hs) : aM.slice (Rect.unit (s := S10000x10000) ![0, 0] S80x10000.size hh) hs = ablk 0 := ablk_congr (by decide) _ _
@[sl_canon] theorem ablk_pre1 (hh hs) : aM.slice (Rect.unit (s := S10000x10000) k0_off5 S80x10000.size hh) hs = ablk 1 := ablk_congr (by decide +kernel) _ _
@[sl_canon] theorem ablk_pre2 (hh hs) : aM.slice (Rect.unit (s := S10000x10000) k0_off8 S80x10000.size hh) hs = ablk 2 := ablk_congr (by decide +kernel) _ _
@[sl_canon] theorem rslot_pre0 (hh hs) : (rM.slice (Rect.unit (s := S4x80x10000) k0_off2 S1x80x10000.size hh) hs).squeeze S80x10000 squeezes_S1x80x10000_S80x10000 = rslot 0 := rslot_congr (by decide +kernel) _ _
@[sl_canon] theorem rslot_pre1 (hh hs) : (rM.slice (Rect.unit (s := S4x80x10000) k0_off4 S1x80x10000.size hh) hs).squeeze S80x10000 squeezes_S1x80x10000_S80x10000 = rslot 1 := rslot_congr (by decide +kernel) _ _
@[sl_canon] theorem rslot_pre2 (hh hs) : (rM.slice (Rect.unit (s := S4x80x10000) k0_off7 S1x80x10000.size hh) hs).squeeze S80x10000 squeezes_S1x80x10000_S80x10000 = rslot 2 := rslot_congr (by decide +kernel) _ _
@[sl_canon] theorem rsem_pre0 (hh) : (cc0_scoped1.slice (Rect.unit (s := S4) k0_off1 S1.size hh)).squeeze S_ squeezes_S1_S_ = rsem 0 := rsem_congr (by decide +kernel) _
@[sl_canon] theorem rsem_pre1 (hh) : (cc0_scoped1.slice (Rect.unit (s := S4) k0_off3 S1.size hh)).squeeze S_ squeezes_S1_S_ = rsem 1 := rsem_congr (by decide +kernel) _
@[sl_canon] theorem rsem_pre2 (hh) : (cc0_scoped1.slice (Rect.unit (s := S4) k0_off6 S1.size hh)).squeeze S_ squeezes_S1_S_ = rsem 2 := rsem_congr (by decide +kernel) _

/-! ## Trip `k` -/

section Trip
variable (k : Fin k0_t1_loop.trips)

/-- The fetch of block `k + 3` into the slot three ahead. -/
@[sl_canon] theorem rsem_fetch (hk : k.val + 3 < 125) (hh) :
    (cc0_scoped1.slice (Rect.unit (s := S4) (k0_off9 (wFetch k.val)) S1.size hh)).squeeze S_ squeezes_S1_S_ = rsem (Ring.sl 4 (k.val + 3)) := rsem_congr (off9_eq k hk) _
@[sl_canon] theorem rslot_fetch (hk : k.val + 3 < 125) (hh hs) :
    (rM.slice (Rect.unit (s := S4x80x10000) (k0_off10 (wFetch k.val)) S1x80x10000.size hh) hs).squeeze S80x10000 squeezes_S1x80x10000_S80x10000 = rslot (Ring.sl 4 (k.val + 3)) := rslot_congr (off10_eq k hk) _ _
@[sl_canon] theorem ablk_fetch (hk : k.val + 3 < 125) (hh hs) :
    aM.slice (Rect.unit (s := S10000x10000) (k0_off11 (wIdx k.val)) S80x10000.size hh) hs = ablk (Ring.bk 125 (k.val + 3)) := ablk_congr (off11_eq k hk) _ _
/-- The wait for block `k`. -/
@[sl_canon] theorem rsem_wait (hh) :
    (cc0_scoped1.slice (Rect.unit (s := S4) (k0_off12 (wStep k.val)) S1.size hh)).squeeze S_ squeezes_S1_S_ = rsem (Ring.sl 4 k.val) := rsem_congr (off12_eq k) _
@[sl_canon] theorem rslot_wait (hh hs) :
    (rM.slice (Rect.unit (s := S4x80x10000) (k0_off13 (wStep k.val)) S1x80x10000.size hh) hs).squeeze S80x10000 squeezes_S1x80x10000_S80x10000 = rslot (Ring.sl 4 k.val) := rslot_congr (off13_eq k) _ _
@[sl_canon] theorem ablk_wait (hh hs) :
    aM.slice (Rect.unit (s := S10000x10000) (k0_off14 (wIdx k.val)) S80x10000.size hh) hs = ablk (Ring.bk 125 k.val) := ablk_congr (off14_eq k) _ _
/-- The send of result block `k`. -/
@[sl_canon] theorem wsem_send (hh) :
    (cc0_scoped3.slice (Rect.unit (s := S2) (k0_off17 (wStep k.val)) S1.size hh)).squeeze S_ squeezes_S1_S_ = wsem (Ring.sl 2 k.val) := wsem_congr (off17_eq k) _
@[sl_canon] theorem oblk_send (hh hs) :
    oM.slice (Rect.unit (s := S10000x128) (k0_off18 (wIdx k.val)) S80x128.size hh) hs = oblk (Ring.bk 125 k.val) := oblk_congr (off18_eq k) _ _
@[sl_canon] theorem wslot_send (hh hs) :
    (wM.slice (Rect.unit (s := S2x80x128) (k0_off19 (wStep k.val)) S1x80x128.size hh) hs).squeeze S80x128 squeezes_S1x80x128_S80x128 = wslot (Ring.sl 2 k.val) := wslot_congr (off19_eq k) _ _
/-- The wait for result block `k - 1`. -/
@[sl_canon] theorem wsem_back (hk : 1 ≤ k.val) (hh) :
    (cc0_scoped3.slice (Rect.unit (s := S2) (k0_off20 (wBack k.val)) S1.size hh)).squeeze S_ squeezes_S1_S_ = wsem (Ring.sl 2 (k.val + 1)) := wsem_congr (off20_eq k hk) _
@[sl_canon] theorem oblk_back (hk : 1 ≤ k.val) (hh hs) :
    oM.slice (Rect.unit (s := S10000x128) (k0_off21 (wIdx k.val)) S80x128.size hh) hs = oblk (Ring.bk 125 (k.val - 1)) := oblk_congr (off21_eq k hk) _ _
@[sl_canon] theorem wslot_back (hk : 1 ≤ k.val) (hh hs) :
    (wM.slice (Rect.unit (s := S2x80x128) (k0_off22 (wBack k.val)) S1x80x128.size hh) hs).squeeze S80x128 squeezes_S1x80x128_S80x128 = wslot (Ring.sl 2 (k.val + 1)) := wslot_congr (off22_eq k hk) _ _

end Trip

/-! ## The wait after the loop -/

@[sl_canon] theorem wsem_last (hh) : (cc0_scoped3.slice (Rect.unit (s := S2) (k0_off23 (wBack 125)) S1.size hh)).squeeze S_ squeezes_S1_S_ = wsem 0 := wsem_congr off23_eq _
@[sl_canon] theorem oblk_last (hh hs) : oM.slice (Rect.unit (s := S10000x128) (k0_off24 (wIdx 125)) S80x128.size hh) hs = oblk 124 := oblk_congr off24_eq _ _
@[sl_canon] theorem wslot_last (hh hs) : (wM.slice (Rect.unit (s := S2x80x128) (k0_off25 (wBack 125)) S1x80x128.size hh) hs).squeeze S80x128 squeezes_S1x80x128_S80x128 = wslot 0 := wslot_congr off25_eq _ _

end Cert.Adj

end
-- ==== Proof.Sent.lean ====
/- What one trip sends: the product of a row block of the matrix with the embeddings. The result buffer the whole run
   leaves (`outOf`) is given row by row, and a sent block is that buffer's block. -/
module

public import proofs.«01_k».proof.Proof.Slots
public import Idealize.ShloMosaic.Lib.VecWindow
public import Idealize.ShloMosaic.Lib.ViewIndex
public import Idealize.ShloMosaic.Lib.Writes

@[expose] public section

noncomputable section

namespace Cert.Adj

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]
local notation "𝕄" => MT nD τ sig Unit (Elt F) ℕ (UU nD τ) ℕ

/-- A row block times the embeddings. -/
def blkProd (x : Vec F S80x10000 .f32) (e : Vec F S10000x128 .f32) : FVec F S80x128 .f32 :=
  matmul dot_S80x10000_S10000x128_S80x128_1_0_0_1_n_n none x e (constant S80x128 .f32 0#32)

/-- The result row `i` belongs to block `i / 80`. -/
def blkOf (i : S10000x128.Idx) : Fin 125 := ⟨(i 0).val / 80, by have : (i 0).val < 10000 := (i 0).isLt; omega⟩
/-- The place of a result element inside its block. -/
def inBlk (i : S10000x128.Idx) : S80x128.Idx
  | ⟨0, _⟩ => ⟨(i 0).val % 80, Nat.mod_lt _ (by norm_num)⟩
  | ⟨1, _⟩ => ⟨(i 1).val, (i 1).isLt⟩

/-- The result of the whole run: element `i` is the product of the block holding row `i`, read at `i`'s place in it. -/
def outOf (XA : S10000x10000.Idx → Elt F .f32) (e : Vec F S10000x128 .f32) : S10000x128.Idx → Elt F .f32 :=
  fun i => blkProd ((ablk (blkOf i)).view.read (Elt F) XA) e (inBlk i)

/-- Block `b` of the whole result is the product of matrix block `b`. -/
theorem read_outOf (XA : S10000x10000.Idx → Elt F .f32) (e : Vec F S10000x128 .f32) (b : Fin 125) :
    (oblk b).view.read (Elt F) (outOf XA e) = blkProd ((ablk b).view.read (Elt F) XA) e := by
  funext x
  obtain ⟨z, hz⟩ : ∃ z : S10000x128.Idx, z = (oblk b).view.emb x := ⟨_, rfl⟩
  have h0 : (z 0).val = 80 * b.val + 1 * (x 0).val := by rw [hz]; rfl
  have h1 : (z 1).val = 0 + 1 * (x 1).val := by rw [hz]; rfl
  have hx : (x 0).val < 80 := (x 0).isLt
  have hb : blkOf z = b := Fin.ext (by show (z 0).val / 80 = b.val; omega)
  have hi : inBlk z = x := funext fun a => by
    match a with
    | ⟨0, _⟩ => exact Fin.ext (by show (z 0).val % 80 = (x 0).val; omega)
    | ⟨1, _⟩ => exact Fin.ext (by show (z 1).val = (x 1).val; omega)
  show outOf XA e ((oblk b).view.emb x) = _
  rw [← hz]
  unfold outOf
  rw [hb, hi]

/-- The payload a trip computes from a landed slot is the product of what landed. -/
theorem pay1_slot (s : Fin 4) {off : Fin 3 → ℕ} (h : off = slotOff s) (hh) (f : (rslot s).view.ty.Contents (Elt F))
    (w : S80x10000.Idx → Elt F .f32) (e : Vec F S10000x128 .f32) :
    k0_pay1 (rM.view.readAt (Elt F) (Rect.unit (s := S4x80x10000) off S1x80x10000.size hh).toLoadRect
      ((rslot s).view.writes (Elt F) f [⟨Rect.whole S80x10000, w⟩])) e = blkProd w e := by
  subst h
  refine congrArg (fun x => blkProd x e) (funext fun y => ?_)
  show (rslot s).view.read (Elt F) ((rslot s).view.writes (Elt F) f [⟨Rect.whole S80x10000, w⟩]) y = w y
  conv_lhs => rw [← Rect.emb_unit_full (s := S80x10000) (off := fun _ => 0) (fun a => by omega) y]
  exact View.read_writes_cons_emb _ _ (Rect.whole S80x10000) w [] y

/-- An output slot stored whole reads the stored block. -/
theorem read_stored (s : Fin 2) {off : Fin 3 → ℕ} (h : off = slotOff s) (hh) (f : (wM.access (Rect.unit (s := S2x80x128) off S1x80x128.size hh)).ty.Contents (Elt F))
    (p : FVec F S80x128 .f32) :
    (wslot s).view.read (Elt F) (View.write (Elt F) (wM.access (Rect.unit (s := S2x80x128) off S1x80x128.size hh)) f (k0_pay2 p) Finset.univ) = p := by
  subst h
  funext y
  show (wM.access (Rect.unit (s := S2x80x128) (slotOff s) S1x80x128.size hh)).read (Elt F) _ (Shape.reshapeEquiv _ y) = _
  rw [View.read_write_univ]
  show p (Shape.reshapeEquiv _ (Shape.reshapeEquiv _ y)) = p y
  congr 1
  simp [Shape.reshapeEquiv]

/-- A result block into which the product of matrix block `b` landed holds the whole result's contents. -/
theorem oblk_landed (c : Dev nD) (XA : S10000x10000.Idx → Elt F .f32) (e : Vec F S10000x128 .f32) (b : Fin 125)
    (g : Buf (Elt F) ((oblk b).view.loc (c : Thread nD τ))) (w : S80x128.Idx → Elt F .f32)
    (h : w = blkProd ((ablk b).view.read (Elt F) XA) e) :
    ((oblk b).view.loc (c : Thread nD τ) ↦[(oblk b).view.set]{fullShare}
      (oblk b).view.writes (Elt F) g [⟨Rect.whole S80x128, w⟩] : sProp 𝕄)
    = ((oblk b).view.loc (c : Thread nD τ) ↦[(oblk b).view.set]{fullShare} outOf XA e : sProp 𝕄) := by
  subst h
  refine pointsTo_congr fun i hi => ?_
  obtain ⟨y, -, rfl⟩ := Finset.mem_map.mp hi
  refine View.eq_of_read_eq (v := (oblk b).view) ?_
  rw [congrFun (read_outOf XA e b) y]
  conv_lhs => rw [← Rect.emb_unit_full (s := S80x128) (off := fun _ => 0) (fun a => by omega) y]
  exact View.read_writes_cons_emb _ _ (Rect.whole S80x128) _ [] y

end Cert.Adj

end
-- ==== Proof.Trip.lean ====
/- One trip of the kernel's loop, by its place: the first (no result block to wait for), a middle one, the last three
   (no block left to fetch). -/
module

public import proofs.«01_k».proof.Proof.Sent

@[expose] public section

noncomputable section

namespace Cert.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Pieces
variable (c : Dev nD) (XA : Buf (Elt F) (aM.view.loc (c : Thread nD τ)))

abbrev rcell (s : Fin 4) : sProp 𝕄 := semVal ((c : Thread nD τ), SemLoc.dma (rsem s).sem) 0
abbrev wcell (s : Fin 2) : sProp 𝕄 := semVal ((c : Thread nD τ), SemLoc.dma (wsem s).sem) 0
abbrev rslotP (s : Fin 4) (f : Buf (Elt F) ((rslot s).view.loc (c : Thread nD τ))) : sProp 𝕄 :=
  (rslot s).view.loc (c : Thread nD τ) ↦[(rslot s).view.set]{fullShare} f
abbrev wslotP (s : Fin 2) (f : Buf (Elt F) ((wslot s).view.loc (c : Thread nD τ))) : sProp 𝕄 :=
  (wslot s).view.loc (c : Thread nD τ) ↦[(wslot s).view.set]{fullShare} f
abbrev ablkP (b : Fin 125) : sProp 𝕄 := (ablk b).view.loc (c : Thread nD τ) ↦[(ablk b).view.set]{fullShare} XA
abbrev oblkP (b : Fin 125) (g : Buf (Elt F) ((oblk b).view.loc (c : Thread nD τ))) : sProp 𝕄 :=
  (oblk b).view.loc (c : Thread nD τ) ↦[(oblk b).view.set]{fullShare} g
abbrev landed (s : Fin 4) (b : Fin 125) (f : Buf (Elt F) ((rslot s).view.loc (c : Thread nD τ))) : Buf (Elt F) ((rslot s).view.loc (c : Thread nD τ)) :=
  (rslot s).view.writes (Elt F) f [⟨Rect.whole S80x10000, ReadAs.same.apply ((ablk b).view.read (Elt F) XA)⟩]
abbrev NR : ℕ := 101120
abbrev NW : ℕ := 1280
abbrev rflight (s : Fin 4) (b : Fin 125) (f : Buf (Elt F) ((rslot s).view.loc (c : Thread nD τ))) : sProp 𝕄 :=
  Transfers.Flight countersEmb (c : Thread nD τ) (SemLoc.dma (rsem s).sem) () NR iprop(rslotP c s (landed c XA s b f) ∗ ablkP c XA b)
abbrev wflight (s : Fin 2) (b : Fin 125) (f : Buf (Elt F) ((wslot s).view.loc (c : Thread nD τ))) (g : Buf (Elt F) ((oblk b).view.loc (c : Thread nD τ))) : sProp 𝕄 :=
  Transfers.Flight countersEmb (c : Thread nD τ) (SemLoc.dma (wsem s).sem) () NW iprop(oblkP c b g ∗ wslotP c s f)

/-- A send whose landed block is the product of matrix block `b` is a send of the whole result's block `b`. -/
theorem wflight_landed (e : Vec F S10000x128 .f32) (s : Fin 2) (b : Fin 125) (g : Buf (Elt F) ((oblk b).view.loc (c : Thread nD τ)))
    (f : Buf (Elt F) ((wslot s).view.loc (c : Thread nD τ))) (w : S80x128.Idx → Elt F .f32)
    (h : w = blkProd ((ablk b).view.read (Elt F) XA) e) :
    wflight c s b f ((oblk b).view.writes (Elt F) g [⟨Rect.whole S80x128, w⟩]) ⊢ wflight c s b f (outOf XA e) :=
  Entails.of_eq (congrArg (fun P : sProp 𝕄 => Transfers.Flight countersEmb (c : Thread nD τ) (SemLoc.dma (wsem s).sem) () NW iprop(P ∗ wslotP c s f))
    (oblk_landed c XA e b g w h))
end Pieces

section Trip
variable (c : Dev nD) (XA : Buf (Elt F) (aM.view.loc (c : Thread nD τ)))
  (arg1 : Memref sig .tc .vmem S10000x128 .f32) (harg1 : arg1.IsWhole)
  (v9 v14 : BitVec 32)

/-- The embeddings as a load of the whole staging buffer reads them. -/
abbrev embOf (E : arg1.view.ty.Contents (Elt F)) : Vec F S10000x128 .f32 :=
  arg1.view.readAt (Elt F) (Rect.unit ![0, 0] S10000x128.size inb_S10000x128_S10000x128_0_0).toLoadRect E

abbrev tripG (k : Fin k0_t1_loop.trips) (a : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) aM (Memref.isWhole_whole _) arg1 harg1 oM (Memref.isWhole_whole _) rM (Memref.isWhole_whole _) cc0_scoped1
    wM (Memref.isWhole_whole _) cc0_scoped3 v9 v14 k a

/-- A trip in the middle: fetch three ahead, wait for block `k`, send its product, wait for the send before. -/
theorem trip_mid (k : Fin k0_t1_loop.trips) (h1 : 1 ≤ k.val) (hk : k.val + 3 < 125)
    (E : Buf (Elt F) (arg1.view.loc (c : Thread nD τ))) fr fr' fw fw' go go' W :
    iprop((arg1.view.loc (c : Thread nD τ) ↦[arg1.view.set]{fullShare} E)
      ∗ owes (c : Thread nD τ) 0 W
      ∗ ablkP c XA (Ring.bk 125 (k.val + 3)) ∗ rcell c (Ring.sl 4 (k.val + 3)) ∗ rslotP c (Ring.sl 4 (k.val + 3)) fr
      ∗ rflight c XA (Ring.sl 4 k.val) (Ring.bk 125 k.val) fr'
      ∗ oblkP c (Ring.bk 125 k.val) go ∗ wcell c (Ring.sl 2 k.val) ∗ wslotP c (Ring.sl 2 k.val) fw
      ∗ wflight c (Ring.sl 2 (k.val + 1)) (Ring.bk 125 (k.val - 1)) fw' go')
    ⊢ wp frame (wpE (defs₀ (F := F)) 𝒱₀ (c : Thread nD τ) none) Set.univ (tripG arg1 harg1 v9 v14 k (acc k.val)) (fun a =>
      iprop(⌜a = acc (k.val + 1)⌝ ∗ (arg1.view.loc (c : Thread nD τ) ↦[arg1.view.set]{fullShare} E)
        ∗ (∃ W', owes (c : Thread nD τ) 0 W')
        ∗ (∃ f, rflight c XA (Ring.sl 4 (k.val + 3)) (Ring.bk 125 (k.val + 3)) f)
        ∗ ablkP c XA (Ring.bk 125 k.val) ∗ rcell c (Ring.sl 4 k.val) ∗ (∃ f, rslotP c (Ring.sl 4 k.val) f)
        ∗ (∃ f, wflight c (Ring.sl 2 k.val) (Ring.bk 125 k.val) f (outOf XA (embOf arg1 E)))
        ∗ oblkP c (Ring.bk 125 (k.val - 1)) go' ∗ wcell c (Ring.sl 2 (k.val + 1)) ∗ (∃ f, wslotP c (Ring.sl 2 (k.val + 1)) f))) := by
  have c3 := cond3_holds k hk
  have c4 := cond4_holds k
  have c7 := cond7_holds k
  have c9 := cond9_holds k h1
  have k1 := chk1_holds k
  have k2 := chk2_holds k
  have k3 := chk3_holds k
  iintro ⟨HE, HW, Ha, Hrc, Hrs, HF, Ho, Hwc, Hws, HG⟩
  dsimp only [tripG, acc]
  sl_unfold [k0_t1_body]
  sl_exec
  sl_step
  isplitr
  · ipureintro
    exact (by decide +kernel : ∀ k : Fin k0_t1_loop.trips, 1 ≤ k.val → k.val + 3 < 125 →
      (trip_mid.sl.v122_r0 k, trip_mid.sl.v161_r0 k, trip_mid.sl.v161_r0 k, trip_mid.sl.v175_r0 k, trip_mid.sl.v96_r0 k) = acc (k.val + 1)) k h1 hk
  isplitl [HE]; iexact HE
  isplitl [HW]; iexists _; iexact HW
  isplitl [Hrc]; iexists fr; iexact Hrc
  isplitl [HF_src]; iexact HF_src
  isplitl [HF]; iexact HF
  isplitl [HF_dst]; iexists _; iexact HF_dst
  isplitl [Hwc]
  · iexists _
    iapply (wflight_landed c XA (embOf arg1 E) (Ring.sl 2 k.val) (Ring.bk 125 k.val) go _ _
      ((read_stored (Ring.sl 2 k.val) (off16_eq k) _ _ _).trans (pay1_slot (Ring.sl 4 k.val) (off15_eq k) _ _ _ _)))
    iexact Hwc
  isplitl [HG_dst]; iexact HG_dst
  isplitl [HG]; iexact HG
  iexists _; iexact HG_src

/-- The first trip: fetch three ahead, wait for block `k`, send its product; no send to wait for. -/
theorem trip_first (k : Fin k0_t1_loop.trips) (h0 : k.val = 0) (hk : k.val + 3 < 125)
    (E : Buf (Elt F) (arg1.view.loc (c : Thread nD τ))) fr fr' fw go W :
    iprop((arg1.view.loc (c : Thread nD τ) ↦[arg1.view.set]{fullShare} E)
      ∗ owes (c : Thread nD τ) 0 W
      ∗ ablkP c XA (Ring.bk 125 (k.val + 3)) ∗ rcell c (Ring.sl 4 (k.val + 3)) ∗ rslotP c (Ring.sl 4 (k.val + 3)) fr
      ∗ rflight c XA (Ring.sl 4 k.val) (Ring.bk 125 k.val) fr'
      ∗ oblkP c (Ring.bk 125 k.val) go ∗ wcell c (Ring.sl 2 k.val) ∗ wslotP c (Ring.sl 2 k.val) fw)
    ⊢ wp frame (wpE (defs₀ (F := F)) 𝒱₀ (c : Thread nD τ) none) Set.univ (tripG arg1 harg1 v9 v14 k (acc k.val)) (fun a =>
      iprop(⌜a = acc (k.val + 1)⌝ ∗ (arg1.view.loc (c : Thread nD τ) ↦[arg1.view.set]{fullShare} E)
        ∗ (∃ W', owes (c : Thread nD τ) 0 W')
        ∗ (∃ f, rflight c XA (Ring.sl 4 (k.val + 3)) (Ring.bk 125 (k.val + 3)) f)
        ∗ ablkP c XA (Ring.bk 125 k.val) ∗ rcell c (Ring.sl 4 k.val) ∗ (∃ f, rslotP c (Ring.sl 4 k.val) f)
        ∗ (∃ f, wflight c (Ring.sl 2 k.val) (Ring.bk 125 k.val) f (outOf XA (embOf arg1 E))))) := by
  have c3 := cond3_holds k hk
  have c4 := cond4_holds k
  have c7 := cond7_holds k
  have c9 := cond9_fails k h0
  have k1 := chk1_holds k
  have k2 := chk2_holds k
  have k3 := chk3_holds k
  iintro ⟨HE, HW, Ha, Hrc, Hrs, HF, Ho, Hwc, Hws⟩
  dsimp only [tripG, acc]
  sl_unfold [k0_t1_body]
  sl_exec
  sl_step
  isplitr
  · ipureintro
    exact (by decide +kernel : ∀ k : Fin k0_t1_loop.trips, k.val = 0 → k.val + 3 < 125 →
      (trip_first.sl.v122_r0 k, trip_first.sl.v161_r0 k, trip_first.sl.v161_r0 k, trip_first.sl.v175_r0 k, trip_first.sl.v96_r0 k) = acc (k.val + 1)) k h0 hk
  isplitl [HE]; iexact HE
  isplitl [HW]; iexists _; iexact HW
  isplitl [Hrc]; iexists fr; iexact Hrc
  isplitl [HF_src]; iexact HF_src
  isplitl [HF]; iexact HF
  isplitl [HF_dst]; iexists _; iexact HF_dst
  iexists _
  iapply (wflight_landed c XA (embOf arg1 E) (Ring.sl 2 k.val) (Ring.bk 125 k.val) go _ _
    ((read_stored (Ring.sl 2 k.val) (off16_eq k) _ _ _).trans (pay1_slot (Ring.sl 4 k.val) (off15_eq k) _ _ _ _)))
  iexact Hwc

/-- One of the last three trips: no fetch; wait for block `k`, send its product, wait for the send before. -/
theorem trip_tail (k : Fin k0_t1_loop.trips) (h1 : 1 ≤ k.val) (hk : ¬k.val + 3 < 125)
    (E : Buf (Elt F) (arg1.view.loc (c : Thread nD τ))) fr' fw fw' go go' W :
    iprop((arg1.view.loc (c : Thread nD τ) ↦[arg1.view.set]{fullShare} E)
      ∗ owes (c : Thread nD τ) 0 W
      ∗ rflight c XA (Ring.sl 4 k.val) (Ring.bk 125 k.val) fr'
      ∗ oblkP c (Ring.bk 125 k.val) go ∗ wcell c (Ring.sl 2 k.val) ∗ wslotP c (Ring.sl 2 k.val) fw
      ∗ wflight c (Ring.sl 2 (k.val + 1)) (Ring.bk 125 (k.val - 1)) fw' go')
    ⊢ wp frame (wpE (defs₀ (F := F)) 𝒱₀ (c : Thread nD τ) none) Set.univ (tripG arg1 harg1 v9 v14 k (acc k.val)) (fun a =>
      iprop(⌜a = acc (k.val + 1)⌝ ∗ (arg1.view.loc (c : Thread nD τ) ↦[arg1.view.set]{fullShare} E)
        ∗ (∃ W', owes (c : Thread nD τ) 0 W')
        ∗ ablkP c XA (Ring.bk 125 k.val) ∗ rcell c (Ring.sl 4 k.val) ∗ (∃ f, rslotP c (Ring.sl 4 k.val) f)
        ∗ (∃ f, wflight c (Ring.sl 2 k.val) (Ring.bk 125 k.val) f (outOf XA (embOf arg1 E)))
        ∗ oblkP c (Ring.bk 125 (k.val - 1)) go' ∗ wcell c (Ring.sl 2 (k.val + 1)) ∗ (∃ f, wslotP c (Ring.sl 2 (k.val + 1)) f))) := by
  have c3 := cond3_fails k hk
  have c4 := cond4_holds k
  have c7 := cond7_holds k
  have c9 := cond9_holds k h1
  have k1 := chk1_holds k
  have k2 := chk2_holds k
  have k3 := chk3_holds k
  iintro ⟨HE, HW, HF, Ho, Hwc, Hws, HG⟩
  dsimp only [tripG, acc]
  sl_unfold [k0_t1_body]
  sl_exec
  sl_step
  isplitr
  · ipureintro
    exact (by decide +kernel : ∀ k : Fin k0_t1_loop.trips, 1 ≤ k.val → ¬k.val + 3 < 125 →
      (trip_tail.sl.v122_r0 k, trip_tail.sl.v161_r0 k, trip_tail.sl.v161_r0 k, trip_tail.sl.v175_r0 k, trip_tail.sl.v96_r0 k) = acc (k.val + 1)) k h1 hk
  isplitl [HE]; iexact HE
  isplitl [HW]; iexists _; iexact HW
  isplitl [HF_src]; iexact HF_src
  isplitl [HF]; iexact HF
  isplitl [HF_dst]; iexists _; iexact HF_dst
  isplitl [Hwc]
  · iexists _
    iapply (wflight_landed c XA (embOf arg1 E) (Ring.sl 2 k.val) (Ring.bk 125 k.val) go _ _
      ((read_stored (Ring.sl 2 k.val) (off16_eq k) _ _ _).trans (pay1_slot (Ring.sl 4 k.val) (off15_eq k) _ _ _ _)))
    iexact Hwc
  isplitl [HG_dst]; iexact HG_dst
  isplitl [HG]; iexact HG
  iexists _; iexact HG_src
end Trip

end Cert.Adj

end
-- ==== Proof.Loop.lean ====
/- The loop's invariant: before trip `k` the input ring has blocks `k … k + 2` in flight and the output ring has result
   block `k - 1` in flight; the result blocks before that one hold the product. -/
module

public import proofs.«01_k».proof.Proof.Trip
public import Idealize.ShloMosaic.Lib.Ring.Trips

@[expose] public section

noncomputable section

namespace Cert.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Rings
variable (c : Dev nD) (XA : Buf (Elt F) (aM.view.loc (c : Thread nD τ))) (G0 : Buf (Elt F) (oM.view.loc (c : Thread nD τ)))
  (e : Vec F S10000x128 .f32)

/-- An output slot not in flight: its semaphore at zero, the slot at anything. -/
abbrev wfree (s : Fin 2) : sProp 𝕄 := iprop(wcell c s ∗ ∃ f, wslotP c s f)
/-- An output slot in flight towards result block `b`: what lands is the product's block. -/
abbrev winfl (s : Fin 2) (b : Fin 125) : sProp 𝕄 := iprop(∃ f, wflight c s b f (outOf XA e))

/-- The input ring before trip `k`. -/
abbrev inRing (k : ℕ) : sProp 𝕄 :=
  Ring.At (NB := 125) (C := fun s : Fin 4 => Buf (Elt F) ((rslot s).view.loc (c : Thread nD τ))) 3 (rcell c) (rslotP c) (ablkP c XA) (rflight c XA) k
/-- The output ring before trip `k`. -/
abbrev outRing (k : ℕ) : sProp 𝕄 :=
  Ring.AtB (NB := 125) 1 (wfree (F := F) c) (winfl c XA e) (fun b => oblkP c b G0) (fun b => oblkP c b (outOf XA e)) k
end Rings

section Loop
variable (c : Dev nD) (XA : Buf (Elt F) (aM.view.loc (c : Thread nD τ))) (G0 : Buf (Elt F) (oM.view.loc (c : Thread nD τ)))
  (arg1 : Memref sig .tc .vmem S10000x128 .f32) (harg1 : arg1.IsWhole) (E : Buf (Elt F) (arg1.view.loc (c : Thread nD τ)))
  (v9 v14 : BitVec 32)

/-- The loop's invariant before trip `k`, the carried words being `a`. -/
def adjInv (k : ℕ) (a : BitVec 32 × BitVec 32 × BitVec 32 × BitVec 32 × BitVec 32) : sProp 𝕄 :=
  iprop(⌜a = acc k⌝ ∗ (arg1.view.loc (c : Thread nD τ) ↦[arg1.view.set]{fullShare} E) ∗ (∃ W, owes (c : Thread nD τ) 0 W)
    ∗ inRing c XA k ∗ outRing c XA G0 (embOf arg1 E) k)

/-- One trip takes the invariant to the next. -/
def TripSteps (k : Fin k0_t1_loop.trips) (a : BitVec 32 × BitVec 32 × BitVec 32 × BitVec 32 × BitVec 32) : Prop :=
  adjInv c XA G0 arg1 E k.val a ⊢ wp frame (wpE (defs₀ (F := F)) 𝒱₀ (c : Thread nD τ) none) Set.univ (tripG arg1 harg1 v9 v14 k a)
    (adjInv c XA G0 arg1 E (k.val + 1))

theorem step_first (k : Fin k0_t1_loop.trips) (a) (h0 : k.val = 0) : TripSteps c XA G0 arg1 harg1 E v9 v14 k a := by
  have hk : k.val + 3 < 125 := by omega
  unfold TripSteps adjInv inRing outRing
  rw [Ring.At4_here _ _ _ _ k.val hk, Ring.At4_next _ _ _ _ k.val hk, Ring.slotAt4_next0 _ _ _ k.val (by omega), Ring.slotAt4_next1 _ _ _ k.val (by omega),
    Ring.slotAt4_next2 _ _ _ k.val hk, Ring.AtB2_zero' 1 _ _ _ _ k.val h0, Ring.AtB21_next_zero' _ _ _ _ k.val h0]
  iintro ⟨%ha, HE, ⟨%W, HW⟩, ⟨⟨Ha, HA⟩, ⟨%f0, HF⟩, HF1, HF2, Hrc, ⟨%fr, Hrs⟩⟩, ⟨Ho, HO⟩, ⟨Hwc, ⟨%fw, Hws⟩⟩, Hw1⟩
  subst ha
  iapply (wp_wand_r Idealize.ShloMosaic.frame (wpE (defs₀ (F := F)) 𝒱₀ (c : Thread nD τ) none) Set.univ)
  isplitl [HE HW Ha Hrc Hrs HF Ho Hwc Hws]
  · iapply (trip_first c XA arg1 harg1 v9 v14 k h0 hk E fr f0 fw G0 W)
    isplitl [HE]; iexact HE
    isplitl [HW]; iexact HW
    isplitl [Ha]; iexact Ha
    isplitl [Hrc]; iexact Hrc
    isplitl [Hrs]; iexact Hrs
    isplitl [HF]; iexact HF
    isplitl [Ho]; iexact Ho
    isplitl [Hwc]; iexact Hwc
    iexact Hws
  iintro %a' ⟨%ha, HE, HW, HF, Ha, Hrc, Hrs, Hw⟩
  isplitr; ipureintro; exact ha
  isplitl [HE]; iexact HE
  isplitl [HW]; iexact HW
  isplitr [HO Hw1 Hw]
  · isplitl [Ha HA]
    · isplitl [Ha]; iexact Ha
      iexact HA
    isplitl [HF1]; iexact HF1
    isplitl [HF2]; iexact HF2
    isplitl [HF]; iexact HF
    isplitl [Hrc]; iexact Hrc
    iexact Hrs
  isplitl [HO]; iexact HO
  isplitl [Hw1]; iexact Hw1
  iexact Hw

theorem step_mid (k : Fin k0_t1_loop.trips) (a) (h1 : 1 ≤ k.val) (hk : k.val + 3 < 125) : TripSteps c XA G0 arg1 harg1 E v9 v14 k a := by
  unfold TripSteps adjInv inRing outRing
  rw [Ring.At4_here _ _ _ _ k.val hk, Ring.At4_next _ _ _ _ k.val hk, Ring.slotAt4_next0 _ _ _ k.val (by omega), Ring.slotAt4_next1 _ _ _ k.val (by omega),
    Ring.slotAt4_next2 _ _ _ k.val hk, Ring.AtB21_here _ _ _ _ k.val h1 (by omega), Ring.AtB21_next _ _ _ _ k.val h1 (by omega)]
  iintro ⟨%ha, HE, ⟨%W, HW⟩, ⟨⟨Ha, HA⟩, ⟨%f0, HF⟩, HF1, HF2, Hrc, ⟨%fr, Hrs⟩⟩, ⟨Ho, HO⟩, HB, ⟨Hwc, ⟨%fw, Hws⟩⟩, ⟨%fw', HG⟩⟩
  subst ha
  iapply (wp_wand_r Idealize.ShloMosaic.frame (wpE (defs₀ (F := F)) 𝒱₀ (c : Thread nD τ) none) Set.univ)
  isplitl [HE HW Ha Hrc Hrs HF Ho Hwc Hws HG]
  · iapply (trip_mid c XA arg1 harg1 v9 v14 k h1 hk E fr f0 fw fw' G0 (outOf XA (embOf arg1 E)) W)
    isplitl [HE]; iexact HE
    isplitl [HW]; iexact HW
    isplitl [Ha]; iexact Ha
    isplitl [Hrc]; iexact Hrc
    isplitl [Hrs]; iexact Hrs
    isplitl [HF]; iexact HF
    isplitl [Ho]; iexact Ho
    isplitl [Hwc]; iexact Hwc
    isplitl [Hws]; iexact Hws
    iexact HG
  iintro %a' ⟨%ha, HE, HW, HF, Ha, Hrc, Hrs, Hw, Hb, Hwc, Hws⟩
  isplitr; ipureintro; exact ha
  isplitl [HE]; iexact HE
  isplitl [HW]; iexact HW
  isplitr [HO HB Hw Hb Hwc Hws]
  · isplitl [Ha HA]
    · isplitl [Ha]; iexact Ha
      iexact HA
    isplitl [HF1]; iexact HF1
    isplitl [HF2]; iexact HF2
    isplitl [HF]; iexact HF
    isplitl [Hrc]; iexact Hrc
    iexact Hrs
  isplitl [HO]; iexact HO
  isplitl [Hb HB]
  · isplitl [Hb]; iexact Hb
    iexact HB
  isplitl [Hwc Hws]
  · isplitl [Hwc]; iexact Hwc
    iexact Hws
  iexact Hw

theorem step_tail (k : Fin k0_t1_loop.trips) (a) (hk : ¬k.val + 3 < 125) : TripSteps c XA G0 arg1 harg1 E v9 v14 k a := by
  have hlt : k.val < 125 := Nat.lt_of_lt_of_eq k.isLt trips_eq
  have h1 : 1 ≤ k.val := by omega
  unfold TripSteps adjInv inRing outRing
  rw [Ring.At4_here_tail _ _ _ _ k.val hlt, Ring.At4_next_tail _ _ _ _ k.val (by omega) hlt, Ring.slotAt4_tail_role, Ring.slotAt4_tail_role1,
    Ring.AtB21_here _ _ _ _ k.val h1 hlt, Ring.AtB21_next _ _ _ _ k.val h1 hlt]
  iintro ⟨%ha, HE, ⟨%W, HW⟩, ⟨HA, ⟨%f0, HF⟩, HF1, HF2, HF3⟩, ⟨Ho, HO⟩, HB, ⟨Hwc, ⟨%fw, Hws⟩⟩, ⟨%fw', HG⟩⟩
  subst ha
  iapply (wp_wand_r Idealize.ShloMosaic.frame (wpE (defs₀ (F := F)) 𝒱₀ (c : Thread nD τ) none) Set.univ)
  isplitl [HE HW HF Ho Hwc Hws HG]
  · iapply (trip_tail c XA arg1 harg1 v9 v14 k h1 hk E f0 fw fw' G0 (outOf XA (embOf arg1 E)) W)
    isplitl [HE]; iexact HE
    isplitl [HW]; iexact HW
    isplitl [HF]; iexact HF
    isplitl [Ho]; iexact Ho
    isplitl [Hwc]; iexact Hwc
    isplitl [Hws]; iexact Hws
    iexact HG
  iintro %a' ⟨%ha, HE, HW, Ha, Hrc, Hrs, Hw, Hb, Hwc, Hws⟩
  isplitr; ipureintro; exact ha
  isplitl [HE]; iexact HE
  isplitl [HW]; iexact HW
  isplitr [HO HB Hw Hb Hwc Hws]
  · isplitl [Ha HA]
    · isplitl [Ha]; iexact Ha
      iexact HA
    isplitl [HF1]; iexact HF1
    isplitl [HF2]; iexact HF2
    isplitl [HF3]; iexact HF3
    isplitl [Hrc]; iexact Hrc
    iexact Hrs
  isplitl [HO]; iexact HO
  isplitl [Hb HB]
  · isplitl [Hb]; iexact Hb
    iexact HB
  isplitl [Hwc Hws]
  · isplitl [Hwc]; iexact Hwc
    iexact Hws
  iexact Hw

/-- Every trip, by its place. -/
theorem step_all : ∀ (k : Fin k0_t1_loop.trips) (a), TripSteps c XA G0 arg1 harg1 E v9 v14 k a :=
  Ring.step_cases (G := TripSteps c XA G0 arg1 harg1 E v9 v14) (fun k => k + 3 < 125)
    (Ring.step_cases (G := fun k a => k.val + 3 < 125 → TripSteps c XA G0 arg1 harg1 E v9 v14 k a) (fun k => k = 0)
      (fun k a h0 _ => step_first c XA G0 arg1 harg1 E v9 v14 k a h0) (fun k a h0 hk => step_mid c XA G0 arg1 harg1 E v9 v14 k a (by omega) hk))
    (fun k a hk => step_tail c XA G0 arg1 harg1 E v9 v14 k a hk)

/-- The invariant as the run of the loop takes it. -/
abbrev adjLoop (init : BitVec 32 × BitVec 32 × BitVec 32 × BitVec 32 × BitVec 32) :
    LoopInvTy_k0_t1 (F := F) Unit ℕ (UU nD τ) ℕ 𝒱₀ c none Set.univ aM (Memref.isWhole_whole _) arg1 harg1 oM (Memref.isWhole_whole _)
      rM (Memref.isWhole_whole _) cc0_scoped1 wM (Memref.isWhole_whole _) cc0_scoped3 v9 v14 init where
  inv k a := adjInv c XA G0 arg1 E k a
  step k a := step_all c XA G0 arg1 harg1 E v9 v14 k a

end Loop

end Cert.Adj

end
-- ==== Proof.Body.lean ====
/- The kernel body: three fetches, the loop, the last wait. Handed the matrix, the result and its own rings, it hands them back with the result
   holding the product. -/
module

public import proofs.«01_k».proof.Proof.Loop

@[expose] public section

noncomputable section

namespace Cert.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem bk_0 : Ring.bk 125 0 = 0 := Fin.ext (by rfl)
theorem bk_1 : Ring.bk 125 1 = 1 := Fin.ext (by rfl)
theorem bk_2 : Ring.bk 125 2 = 2 := Fin.ext (by rfl)

section Body
variable (c : Dev nD) (XA : Buf (Elt F) (aM.view.loc (c : Thread nD τ))) (G0 : Buf (Elt F) (oM.view.loc (c : Thread nD τ)))
  (arg1 : Memref sig .tc .vmem S10000x128 .f32) (harg1 : arg1.IsWhole) (E : Buf (Elt F) (arg1.view.loc (c : Thread nD τ)))

/-- The body on the staging buffer `arg1` of the embeddings. -/
abbrev bodyG : Prog (TpuEff nD τ sig (Elt F) Λ₀ .tc) PUnit :=
  cc0__outer (F := F) aM (Memref.isWhole_whole _) arg1 harg1 oM (Memref.isWhole_whole _) rM (Memref.isWhole_whole _) cc0_scoped1
    wM (Memref.isWhole_whole _) cc0_scoped3

/-- The input ring at rest: every matrix block home, every slot free. -/
abbrev inRest : sProp 𝕄 :=
  Ring.At₀ (NB := 125) (C := fun s : Fin 4 => Buf (Elt F) ((rslot s).view.loc (c : Thread nD τ))) (rcell c) (rslotP c) (ablkP c XA)

/-- What the body is handed. -/
abbrev PRE (W : Waits sig Unit) : sProp 𝕄 :=
  iprop((arg1.view.loc (c : Thread nD τ) ↦[arg1.view.set]{fullShare} E) ∗ owes (c : Thread nD τ) 0 W
    ∗ inRest c XA ∗ Ring.AtB₀ (NB := 125) (wfree (F := F) c) (fun b => oblkP c b G0))
/-- What it hands back. -/
abbrev POST : sProp 𝕄 :=
  iprop((arg1.view.loc (c : Thread nD τ) ↦[arg1.view.set]{fullShare} E) ∗ (∃ W, owes (c : Thread nD τ) 0 W)
    ∗ inRest c XA ∗ Ring.AtBEnd (NB := 125) (wfree (F := F) c) (fun b => oblkP c b (outOf XA (embOf arg1 E))))

attribute [local sl_canon] bk_0 bk_1 bk_2 in
/-- The body's run: handed `PRE`, it hands back `POST`. -/
theorem bodyRun (W) (Q : PUnit → sProp 𝕄) :
    iprop(PRE c XA G0 arg1 E W ∗ (POST c XA arg1 E -∗ Q ⟨⟩))
      ⊢ wp frame (wpE (defs₀ (F := F)) 𝒱₀ (c : Thread nD τ) none) Set.univ (bodyG arg1 harg1) Q := by
  unfold PRE inRest
  rw [Ring.At₀_eq4 _ _ _ (by decide)]
  iintro ⟨⟨HE, HW, ⟨⟨Ha0, Ha1, Ha2, Ha3, HA⟩, ⟨Hc0, ⟨%f0, Hs0⟩⟩, ⟨Hc1, ⟨%f1, Hs1⟩⟩, ⟨Hc2, ⟨%f2, Hs2⟩⟩, Hc3⟩, HO⟩, Hk⟩
  sl_exec
  -- the loop is entered with blocks 0, 1, 2 in flight
  ihave HI := (show iprop((arg1.view.loc (c : Thread nD τ) ↦[arg1.view.set]{fullShare} E) ∗ owes (c : Thread nD τ) 0 W
      ∗ inRing c XA 0 ∗ outRing c XA G0 (embOf arg1 E) 0) ⊢ adjInv c XA G0 arg1 E 0 (3#32, 0#32, 0#32, 0#32, 0#32) from by
    unfold adjInv
    iintro ⟨HE, HW, HR⟩
    isplitr; ipureintro; decide +kernel
    isplitl [HE]; iexact HE
    isplitl [HW]; iexists _; iexact HW
    iexact HR) $$ [HE HW Ha3 HA Hc3 HO Hc0 Hc1 Hc2]
  · isplitl [HE]; iexact HE
    isplitl [HW]; iexact HW
    unfold inRing outRing
    rw [Ring.AtB_zero, Ring.At4_here _ _ _ _ 0 (by decide)]
    isplitr [HO]
    · isplitl [Ha3 HA]
      · isplitl [Ha3]; iexact Ha3
        iexact HA
      isplitl [Hc0]; iexists f0; iexact Hc0
      isplitl [Hc1]; iexists f1; iexact Hc1
      isplitl [Hc2]; iexists f2; iexact Hc2
      iexact Hc3
    iexact HO
  iapply (exec_loop Idealize.ShloMosaic.frame (wpE (defs₀ (F := F)) 𝒱₀ (c : Thread nD τ) none) Set.univ k0_t1_loop.lb k0_t1_loop.ub k0_t1_loop.st
    k0_t1_ok (3#32, 0#32, 0#32, 0#32, 0#32) _ (adjLoop c XA G0 arg1 harg1 E 1#32 2#32 (3#32, 0#32, 0#32, 0#32, 0#32))) $$ [HI]
  · iexact HI
  iintro %a HI
  -- after the last trip: every matrix block is home, result block 124 is in flight
  ihave HI := (show adjInv c XA G0 arg1 E k0_t1_loop.trips a ⊢ iprop(⌜a = acc 125⌝ ∗ (arg1.view.loc (c : Thread nD τ) ↦[arg1.view.set]{fullShare} E)
      ∗ (∃ W, owes (c : Thread nD τ) 0 W) ∗ inRest c XA ∗ bigSep (Ring.behindSet 1 125) (fun b => oblkP c b (outOf XA (embOf arg1 E)))
      ∗ wfree c 1 ∗ winfl c XA (embOf arg1 E) 0 124) from by
    rw [trips_eq]
    unfold adjInv inRing outRing
    rw [Ring.At_past_eq_free _ _ _ _ _ 125 le_rfl, Ring.AtB21_end' _ _ _ _ 125 rfl (by decide)]
    exact .rfl) $$ HI
  icases HI with ⟨%ha, HE, ⟨%W', HW⟩, HR, HB, Hwf, ⟨%fw, HG⟩⟩
  subst ha
  have k4 := chk4_holds
  have k5 := chk5_holds
  dsimp only [acc]
  sl_exec
  sl_step
  iapply Hk
  unfold POST
  rw [Ring.AtB21_epilogue' _ _ 125 rfl (by decide)]
  isplitl [HE]; iexact HE
  isplitl [HW]; iexists _; iexact HW
  isplitl [HR]; iexact HR
  isplitl [HG_dst HB]
  · isplitl [HG_dst]; iexact HG_dst
    iexact HB
  isplitl [Hwf]; iexact Hwf
  isplitl [HG]; iexact HG
  iexists fw; iexact HG_src
end Body

end Cert.Adj

end
-- ==== Proof.Memory.lean ====
/- The buffers whole, as their pieces: the matrix and the result as their 125 row blocks, the two rings as their slots. -/
module

public import proofs.«01_k».proof.Proof.Body

@[expose] public section

noncomputable section

namespace Cert.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The pieces' elements: rows of blocks along the first axis -/

/-- The elements of matrix block `b`, result block `b`, input slot `s`, output slot `s`. -/
abbrev aSet (b : Fin 125) : Finset S10000x10000.Idx := (Rect.unit (s := S10000x10000) (blkOff b) S80x10000.size (ablk_inb b)).set
abbrev oSet (b : Fin 125) : Finset S10000x128.Idx := (Rect.unit (s := S10000x128) (blkOff b) S80x128.size (oblk_inb b)).set
abbrev rSet (s : Fin 4) : Finset S4x80x10000.Idx := (Rect.unit (s := S4x80x10000) (slotOff s) S1x80x10000.size (rslot_inb s)).set
abbrev wSet (s : Fin 2) : Finset S2x80x128.Idx := (Rect.unit (s := S2x80x128) (slotOff s) S1x80x128.size (wslot_inb s)).set

theorem ablk_set (b : Fin 125) : (ablk b).view.set = aSet b := View.set_slice_whole _ _
theorem oblk_set (b : Fin 125) : (oblk b).view.set = oSet b := View.set_slice_whole _ _
theorem rslot_set (s : Fin 4) : (rslot s).view.set = rSet s := (View.set_reshape _ _).trans (View.set_slice_whole _ _)
theorem wslot_set (s : Fin 2) : (wslot s).view.set = wSet s := (View.set_reshape _ _).trans (View.set_slice_whole _ _)

/-- A block's offset is its row count times its number along the rows, zero along the columns; a slot's is its number. -/
theorem blkOff_row (b : Fin 125) : blkOff b 0 = 80 * b.val := rfl
theorem blkOff_col (b : Fin 125) (a : Fin 2) (h : a ≠ 0) : blkOff b a = 0 := by fin_cases a; exact absurd rfl h; rfl
theorem slotOff_num {n : ℕ} (s : Fin n) : slotOff s 0 = 1 * s.val := (Nat.one_mul _).symm
theorem slotOff_rest {n : ℕ} (s : Fin n) (a : Fin 3) (h : a ≠ 0) : slotOff s a = 0 := by fin_cases a; exact absurd rfl h; rfl; rfl

theorem aSet_disjoint (b b' : Fin 125) (h : b ≠ b') : Disjoint (aSet b) (aSet b') :=
  Ring.lead_disjoint (s := S10000x10000) (0 : Fin 2) 80 blkOff S80x10000.size ablk_inb blkOff_row rfl b b' h
theorem aSet_cover : Finset.univ.biUnion aSet = Finset.univ :=
  Ring.lead_cover (s := S10000x10000) (0 : Fin 2) 80 blkOff S80x10000.size ablk_inb blkOff_row blkOff_col rfl (by decide) rfl
theorem oSet_disjoint (b b' : Fin 125) (h : b ≠ b') : Disjoint (oSet b) (oSet b') :=
  Ring.lead_disjoint (s := S10000x128) (0 : Fin 2) 80 blkOff S80x128.size oblk_inb blkOff_row rfl b b' h
theorem oSet_cover : Finset.univ.biUnion oSet = Finset.univ :=
  Ring.lead_cover (s := S10000x128) (0 : Fin 2) 80 blkOff S80x128.size oblk_inb blkOff_row blkOff_col rfl (by decide) rfl
theorem rSet_disjoint (s s' : Fin 4) (h : s ≠ s') : Disjoint (rSet s) (rSet s') :=
  Ring.lead_disjoint (s := S4x80x10000) (0 : Fin 3) 1 slotOff S1x80x10000.size rslot_inb slotOff_num rfl s s' h
theorem rSet_cover : Finset.univ.biUnion rSet = Finset.univ :=
  Ring.lead_cover (s := S4x80x10000) (0 : Fin 3) 1 slotOff S1x80x10000.size rslot_inb slotOff_num slotOff_rest rfl (by decide) rfl
theorem wSet_disjoint (s s' : Fin 2) (h : s ≠ s') : Disjoint (wSet s) (wSet s') :=
  Ring.lead_disjoint (s := S2x80x128) (0 : Fin 3) 1 slotOff S1x80x128.size wslot_inb slotOff_num rfl s s' h
theorem wSet_cover : Finset.univ.biUnion wSet = Finset.univ :=
  Ring.lead_cover (s := S2x80x128) (0 : Fin 3) 1 slotOff S1x80x128.size wslot_inb slotOff_num slotOff_rest rfl (by decide) rfl

/-! ## The buffers whole are their pieces -/

section Whole
variable (c : Dev nD)

/-- The matrix whole is its blocks home. -/
theorem a_eq (XA : Buf (Elt F) (aM.view.loc (c : Thread nD τ))) :
    (((c : Thread nD τ).loc main_arg0) ↦{fullShare} XA : sProp 𝕄) = bigSep Finset.univ (ablkP c XA) := by
  rw [Ring.pointsTo_blocks (ℓ := (c : Thread nD τ).loc main_arg0) aSet aSet_disjoint aSet_cover]
  exact bigSep_congr fun b _ => by rw [← ablk_set]; rfl
/-- The result whole is its blocks. -/
theorem o_eq (G : Buf (Elt F) (oM.view.loc (c : Thread nD τ))) :
    (((c : Thread nD τ).loc main_v0) ↦{fullShare} G : sProp 𝕄) = bigSep Finset.univ (fun b => oblkP c b G) := by
  rw [Ring.pointsTo_blocks (ℓ := (c : Thread nD τ).loc main_v0) oSet oSet_disjoint oSet_cover]
  exact bigSep_congr fun b _ => by rw [← oblk_set]; rfl

theorem rslotP_eq (s : Fin 4) (f) : rslotP c s f = (((c : Thread nD τ).loc cc0_scoped0) ↦[rSet s]{fullShare} f : sProp 𝕄) :=
  congrArg (fun S => (_ ↦[S]{fullShare} f : sProp 𝕄)) (rslot_set s)
theorem wslotP_eq (s : Fin 2) (f) : wslotP c s f = (((c : Thread nD τ).loc cc0_scoped2) ↦[wSet s]{fullShare} f : sProp 𝕄) :=
  congrArg (fun S => (_ ↦[S]{fullShare} f : sProp 𝕄)) (wslot_set s)

/-- The input ring at anything is its slots at anything, and back; -/
theorem rring_split :
    iprop(∃ f : Buf (Elt F) ((c : Thread nD τ).loc cc0_scoped0), ((c : Thread nD τ).loc cc0_scoped0) ↦{fullShare} f)
      ⊢ (bigSep Finset.univ (fun s => iprop(∃ f, rslotP c s f)) : sProp 𝕄) :=
  Ring.pieces_split (Ix := Unit) (Name := ℕ) (U := UU nD τ) (Lvl := ℕ) (q := fullShare) (ℓ := (c : Thread nD τ).loc cc0_scoped0) rSet rSet_disjoint rSet_cover (rslotP c) (rslotP_eq c)
theorem rring_join :
    (bigSep Finset.univ (fun s => iprop(∃ f, rslotP c s f)) : sProp 𝕄)
      ⊢ iprop(∃ f : Buf (Elt F) ((c : Thread nD τ).loc cc0_scoped0), ((c : Thread nD τ).loc cc0_scoped0) ↦{fullShare} f) :=
  Ring.pieces_join (Ix := Unit) (Name := ℕ) (U := UU nD τ) (Lvl := ℕ) (q := fullShare) (ℓ := (c : Thread nD τ).loc cc0_scoped0) rSet rSet_disjoint rSet_cover (rslotP c) (rslotP_eq c) (fun _ => Classical.arbitrary _)
/-- so is the output ring. -/
theorem wring_split :
    iprop(∃ f : Buf (Elt F) ((c : Thread nD τ).loc cc0_scoped2), ((c : Thread nD τ).loc cc0_scoped2) ↦{fullShare} f)
      ⊢ (bigSep Finset.univ (fun s => iprop(∃ f, wslotP c s f)) : sProp 𝕄) :=
  Ring.pieces_split (Ix := Unit) (Name := ℕ) (U := UU nD τ) (Lvl := ℕ) (q := fullShare) (ℓ := (c : Thread nD τ).loc cc0_scoped2) wSet wSet_disjoint wSet_cover (wslotP c) (wslotP_eq c)
theorem wring_join :
    (bigSep Finset.univ (fun s => iprop(∃ f, wslotP c s f)) : sProp 𝕄)
      ⊢ iprop(∃ f : Buf (Elt F) ((c : Thread nD τ).loc cc0_scoped2), ((c : Thread nD τ).loc cc0_scoped2) ↦{fullShare} f) :=
  Ring.pieces_join (Ix := Unit) (Name := ℕ) (U := UU nD τ) (Lvl := ℕ) (q := fullShare) (ℓ := (c : Thread nD τ).loc cc0_scoped2) wSet wSet_disjoint wSet_cover (wslotP c) (wslotP_eq c) (fun _ => Classical.arbitrary _)

end Whole

/-! ## The kernel's own semaphores: the input slots' four, the output slots' two -/

abbrev osem (s : Fin 6) : SemLoc sig :=
  if h : s.val < 4 then .dma (rsem ⟨s.val, h⟩).sem else .dma (wsem ⟨s.val - 4, by have := s.isLt; omega⟩).sem
theorem ownSemFacts : Pipeline.OwnSemFacts spec0 osem := by decide

/-- The kernel's own semaphores at zero are the two rings'. -/
theorem ownSems0_eq (c : Dev nD) : (Pipeline.ownSems0 (Ix := Unit) (Name := ℕ) (U := UU nD τ) (Lvl := ℕ) (Val := Elt F) (τ := τ) osem c : sProp 𝕄)
    = iprop(rcell c 0 ∗ rcell c 1 ∗ rcell c 2 ∗ rcell c 3 ∗ wcell c 0 ∗ wcell c 1) := by
  unfold Pipeline.ownSems0
  rw [bigSep_univ_eq_bigSepL [(0 : Fin 6), 1, 2, 3, 4, 5] (by decide) (by decide)]
  rfl

/-- The rings' semaphores, as families. -/
theorem rcells_eq (c : Dev nD) : (bigSep Finset.univ (rcell c) : sProp 𝕄) = iprop(rcell c 0 ∗ rcell c 1 ∗ rcell c 2 ∗ rcell c 3) :=
  bigSep_univ_eq_bigSepL [(0 : Fin 4), 1, 2, 3] (by decide) (by decide) _
theorem wcells_eq (c : Dev nD) : (bigSep Finset.univ (wcell c) : sProp 𝕄) = iprop(wcell c 0 ∗ wcell c 1) :=
  bigSep_univ_eq_bigSepL [(0 : Fin 2), 1] (by decide) (by decide) _

end Cert.Adj

end
-- ==== Proof.Launch.lean ====
/- The launch: from any memory every run of the program ends with the result holding the product, the arguments unchanged
   and every semaphore at zero. -/
module

public import proofs.«01_k».proof.Proof.Memory
public import proofs.«01_k».proof.Proof.Gen.KernelIdeal.Points

@[expose] public section

noncomputable section

namespace Cert.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-- The memory at launch. -/
abbrev s₀ : MemSt nD τ sig (Elt F) := ⟨m, fun _ => 0, ρ⟩
/-- A buffer's contents at launch. -/
abbrev V (c : Dev nD) (b : Ref sig .tc) : Buf (Elt F) ((c : Thread nD τ).loc b) := m ((c : Thread nD τ).loc b)

/-- What the program leaves in the result: the product of the launch's matrix and embeddings, block by block. -/
def outV (c : Dev nD) : Buf (Elt F) ((c : Thread nD τ).loc main_v0) := outOf (V m c main_arg0) (V m c main_arg1)

/-! ## The pipeline's proof data -/

/-- Both rings at rest: the matrix at `XA`, the result at `G`, every slot free. -/
def atRest (c : Dev nD) (XA : Buf (Elt F) (aM.view.loc (c : Thread nD τ))) (G : Buf (Elt F) (oM.view.loc (c : Thread nD τ))) : sProp 𝕄 :=
  iprop(inRest c XA ∗ Ring.AtB₀ (NB := 125) (wfree (F := F) c) (fun b => oblkP c b G))

/-- The result's contents: as launched before the one point, the product after it. -/
def resAt (c : Dev nD) (n : ℕ) : Buf (Elt F) (oM.view.loc (c : Thread nD τ)) := if n = 0 then V m c main_v0 else outV m c
theorem resAt_before (c : Dev nD) (n : ℕ) (h : n = 0) : resAt m c n = V m c main_v0 := if_pos h
theorem resAt_after (c : Dev nD) (n : ℕ) (h : n ≠ 0) : resAt m c n = outV m c := if_neg h

/-- The region invariant: both rings at rest. -/
def Φ (c : Dev nD) (n : ℕ) : sProp 𝕄 := atRest c (V m c main_arg0) (resAt m c n)
theorem Φ_before (c : Dev nD) (n : ℕ) (h : n = 0) : Φ m c n = atRest c (V m c main_arg0) (V m c main_v0) :=
  congrArg (atRest c (V m c main_arg0)) (resAt_before m c n h)
theorem Φ_after (c : Dev nD) (n : ℕ) (h : n ≠ 0) : Φ m c n = atRest c (V m c main_arg0) (outV m c) :=
  congrArg (atRest c (V m c main_arg0)) (resAt_after m c n h)

abbrev st0 (t : Fin cfg0.N) : Memref sig .tc .vmem S10000x128 .f32 := win0_0.stage (cfg0.slots t 0)
abbrev hst0 (t : Fin cfg0.N) : (st0 t).IsWhole := hstage0_0 0

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The one window's block is the embeddings, whole. -/
theorem iblk_eq (c : Dev nD) (t : Fin cfg0.N) : iblk m c 0 t = V m c main_arg1 := by
  funext i
  show V m c main_arg1 _ = V m c main_arg1 i
  refine congrArg _ (funext fun a => Fin.ext ?_)
  fin_cases a
  · show 0 * 10000 + 1 * (i 0).val = (i 0).val; omega
  · show 0 * 128 + 1 * (i 1).val = (i 1).val; omega

def dats (_ : Fin 1) (c : Dev nD) : Dat τ (Elt F) Unit ℕ (UU nD τ) ℕ cfg0 c where
  A w := V m c (Pipeline.arrRef spec0 w)
  after w t := match w with
    | ⟨0, _⟩ => iblk m c 0 t
  Φ n := Φ m c n.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

/-- The staging buffer at the fetched block holds the launch's embeddings. -/
theorem embOf_st0 (c : Dev nD) (t : Fin cfg0.N) : embOf (st0 t) ((st0 t).view.rep (iblk m c 0 t)) = V m c main_arg1 :=
  (View.readAt_rep_full _ _ _).trans (iblk_eq m c t)

/-! ## The body obligation -/

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

/-- The one point's number is 0. -/
theorem point_val (t : Fin cfg0.N) : t.val = 0 := by rw [fin_N0 t]; rfl

/-- What the body hands back at the point, the result named as the launch's product. -/
theorem post_out (c : Dev nD) (t : Fin cfg0.N) :
    POST c (V m c main_arg0) (st0 t) ((st0 t).view.rep (iblk m c 0 t))
      ⊢ iprop(((st0 t).view.loc (c : Thread nD τ) ↦[(st0 t).view.set]{fullShare} (st0 t).view.rep (iblk m c 0 t))
        ∗ (∃ W, owes (c : Thread nD τ) 0 W) ∗ inRest c (V m c main_arg0)
        ∗ Ring.AtB₀ (NB := 125) (wfree (F := F) c) (fun b => oblkP c b (outV m c))) :=
  Entails.of_eq (congrArg (fun e : Vec F S10000x128 .f32 =>
    iprop(((st0 t).view.loc (c : Thread nD τ) ↦[(st0 t).view.set]{fullShare} (st0 t).view.rep (iblk m c 0 t))
      ∗ (∃ W, owes (c : Thread nD τ) 0 W) ∗ inRest c (V m c main_arg0)
      ∗ Ring.AtB₀ (NB := 125) (wfree (F := F) c) (fun b => oblkP c b (outOf (V m c main_arg0) e)))) (embOf_st0 m c t))

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0]
  rw [show (dats m 0 c).Φ t.castSucc = _ from Φ_before m c t.val (point_val t),
    show (dats m 0 c).Φ t.succ = _ from Φ_after m c (t.val + 1) (Nat.succ_ne_zero _)]
  unfold Dat.owesAt Pipeline.owesWithin
  rw [show (dats m 0 c).owed t.castSucc = 0 from rfl, show (dats m 0 c).owed t.succ = 0 from rfl]
  unfold owns atRest
  iintro ⟨⟨HI, HO⟩, ⟨%W, -, HW⟩, ⟨%d0, %g0, %hg0, HE⟩⟩
  ihave HE' := (pointsTo_rep_entails (c : Thread nD τ) (st0 t) g0 fullShare) $$ HE
  rw [hg0]
  sl_rw [prog_eq t]
  iapply (bodyRun c (V m c main_arg0) (V m c main_v0) (st0 t) (hst0 t) _ W)
  isplitl [HE' HW HI HO]
  · isplitl [HE']; iexact HE'
    isplitl [HW]; iexact HW
    isplitl [HI]; iexact HI
    iexact HO
  · iintro HP
    ihave HP' := (post_out m c t) $$ HP
    icases HP' with ⟨HE, ⟨%W', HW⟩, HI, HO⟩
    isplitl [HI HO]
    · isplitl [HI]; iexact HI
      iexact HO
    isplitl [HW]
    · iexists W'; isplitr; ipureintro; exact fun _ _ => Or.inl trivial
      iexact HW
    iexists _; isplitr; ipureintro; exact View.read_rep _ _
    iexact HE

/-! ## The run -/

def intoΦ (c : Dev nD) : sProp 𝕄 :=
  iprop(bigSep Finset.univ (ablkP c (V m c main_arg0)) ∗ bigSep Finset.univ (fun b => oblkP c b (V m c main_v0)) ∗ Pipeline.ownSems0 osem c)
def outOfΦ (c : Dev nD) : sProp 𝕄 :=
  iprop((((c : Thread nD τ).loc main_arg0) ↦{fullShare} V m c main_arg0) ∗ (((c : Thread nD τ).loc main_v0) ↦{fullShare} outV m c))
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = V m c main_arg0 ∧ s.mem ((c : Thread nD τ).loc main_v0) = outV m c
def QC : PUnit × MemSt nD τ sig (Elt F) → Prop := fun r =>
  ∀ c : Dev nD, (∀ w : Fin cfg0.W, r.2.mem ((cfg0.win w).arr.view.loc (c : Thread nD τ)) = finalA m c w) ∧ QY m c r.2

/-- The rings at rest are their blocks, their slots and their semaphores. -/
theorem rest_eq (c : Dev nD) (XA : Buf (Elt F) (aM.view.loc (c : Thread nD τ))) (G : Buf (Elt F) (oM.view.loc (c : Thread nD τ))) :
    atRest c XA G
      = iprop((bigSep Finset.univ (ablkP c XA) ∗ bigSep Finset.univ (rcell c) ∗ bigSep Finset.univ (fun s => iprop(∃ f, rslotP c s f)))
        ∗ bigSep Finset.univ (fun b => oblkP c b G) ∗ bigSep Finset.univ (wcell c) ∗ bigSep Finset.univ (fun s => iprop(∃ f, wslotP c s f))) := by
  unfold atRest inRest Ring.At₀ Ring.AtB₀ Ring.free wfree
  rw [bigSep_sep', bigSep_sep']

set_option backward.isDefEq.respectTransparency.types false in
/-- Every run ends, with the result at the product, the matrix unchanged, the staged array at its final contents and every
    semaphore at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq, a_eq c (V m c main_arg0), o_eq c (V m c main_v0)]
      unfold intoΦ
      iintro ⟨⟨HA, HO⟩, HS, -, -, -⟩; imodintro
      isplitl [HA HO HS]
      · isplitl [HA]; iexact HA
        isplitl [HO]; iexact HO
        iexact HS
      iempintro)
    (hin := fun c => by
      rw [scopedRest0_eq, show (dats m 0 c).Φ 0 = _ from Φ_before m c 0 rfl, rest_eq, rcells_eq, wcells_eq]
      unfold intoΦ; rw [ownSems0_eq]
      iintro ⟨⟨HA, HO, Hr0, Hr1, Hr2, Hr3, Hw0, Hw1⟩, HR, HW⟩
      isplitl [HA Hr0 Hr1 Hr2 Hr3 HR]
      · isplitl [HA]; iexact HA
        isplitl [Hr0 Hr1 Hr2 Hr3]
        · isplitl [Hr0]; iexact Hr0
          isplitl [Hr1]; iexact Hr1
          isplitl [Hr2]; iexact Hr2
          iexact Hr3
        iapply (rring_split c); iexact HR
      isplitl [HO]; iexact HO
      isplitl [Hw0 Hw1]
      · isplitl [Hw0]; iexact Hw0
        iexact Hw1
      iapply (wring_split c); iexact HW)
    (hout := fun c => by
      rw [scopedRest0_eq, show (dats m 0 c).Φ (Fin.last cfg0.N) = _ from Φ_after m c cfg0.N (by decide), rest_eq, rcells_eq, wcells_eq, ownSems0_eq]
      unfold outOfΦ; rw [a_eq c (V m c main_arg0), o_eq c (outV m c)]
      iintro ⟨⟨HA, ⟨Hr0, Hr1, Hr2, Hr3⟩, HR⟩, HO, ⟨Hw0, Hw1⟩, HW⟩
      isplitl [HA HO]
      · isplitl [HA]; iexact HA
        iexact HO
      isplitl [Hr0 Hr1 Hr2 Hr3 Hw0 Hw1]
      · isplitl [Hr0]; iexact Hr0
        isplitl [Hr1]; iexact Hr1
        isplitl [Hr2]; iexact Hr2
        isplitl [Hr3]; iexact Hr3
        isplitl [Hw0]; iexact Hw0
        iexact Hw1
      isplitl [HR]
      · iapply (rring_join c); iexact HR
      iapply (wring_join c); iexact HW)
    (QY := QY m)
    (hY := fun c s' => by
      unfold outOfΦ
      iintro ⟨⟨HA, HO⟩, -, HSI⟩
      icombine HSI HA gives %hA
      icombine HSI HO gives %hO
      imodintro
      isplitr; ipureintro; exact ⟨Buf.eq_of_forall_mem_univ hA, Buf.eq_of_forall_mem_univ hO⟩
      iexact HSI)
    (hQ := fun _ hh hz => ⟨hh, hz⟩)

/-- The staged array, an input, ends as launched. -/
theorem finalA_in (c : Dev nD) (w : Fin cfg0.W) (hw : (cfg0.win w).isOut = false) :
    finalA m c w = m ((cfg0.win w).arr.view.loc (c : Thread nD τ)) :=
  (dats (F := F) m 0 c).arrAt_in w hw _

/-- The run as the claims read it: result, arguments, semaphores. -/
theorem run_all : θ_run defs (onTc (τ := τ) (main (F := F))) (s₀ m ρ) (fun r =>
    (∀ c : Dev nD, r.2.mem ((c : Thread nD τ).loc main_v0) = outV m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ hh => ⟨fun c => ⟨(hh.1 c).2.2, (hh.1 c).2.1, ((hh.1 c).1 0).trans (finalA_in m c 0 rfl)⟩, hh.2⟩) (run_main m ρ)

end Cert.Adj

end
-- ==== Proof.Value.lean ====
/- At the ideal values, the product computed block by block is the reference's product: the matrix rows of a block are the
   rows of the whole matrix, and each element is the same sum over the 10000 nodes. -/
module

public import proofs.«01_k».proof.Proof.Sent
public import proofs.«01_k».proof.Proof.Gen.ReferenceIdeal
public import Idealize.ShloMosaic.Lib.Pointwise

@[expose] public section

set_option maxRecDepth 16384

noncomputable section

namespace Cert.Adj

open Cert.KernelIdeal Cert.KernelIdeal.Gen
open Idealize.ShloMosaic Idealize.ShloMosaic.TcCoe
open Idealize.SL.Sem

/-- Row `i % 80` of the block that holds row `i` is row `i` of the matrix. -/
theorem read_row (XA : S10000x10000.Idx → Elt Ideal .f32) (i : Fin 10000) (k : Fin 10000) (b : Fin 125) (r : Fin 80)
    (h : i.val = 80 * b.val + r.val) :
    (ablk b).view.read (Elt Ideal) XA (ix2 r k) = XA (ix2 i k) := by
  show XA ((ablk b).view.emb (ix2 r k)) = _
  refine congrArg XA (funext fun a => ?_)
  match a with
  | ⟨0, _⟩ => exact Fin.ext (by show 80 * b.val + 1 * r.val = i.val; omega)
  | ⟨1, _⟩ => exact Fin.ext (by show 0 + 1 * k.val = k.val; omega)

/-- The blocked product is the reference's product. -/
theorem outOf_eq (XA : S10000x10000.Idx → Elt Ideal .f32) (e : Vec Ideal S10000x128 .f32) :
    outOf XA e = Host.dotGeneral (F := Ideal) (φ₁ := .f32) (φ₂ := .f32) Cert.ReferenceIdeal.dot_S10000x10000_S10000x128_S10000x128_1_0_0_1_n_n none XA e := by
  funext j
  unfold outOf
  obtain ⟨a, c, rfl⟩ : ∃ (a : Fin 10000) (c : Fin 128), j = ix2 a c := ⟨j 0, j 1, eq_ix2 j⟩
  obtain ⟨r, hr⟩ : ∃ r : Fin 80, r.val = a.val % 80 := ⟨⟨a.val % 80, Nat.mod_lt _ (by norm_num)⟩, rfl⟩
  have hi : inBlk (ix2 a c) = ix2 r c := funext fun x => by
    match x with
    | ⟨0, _⟩ => exact Fin.ext hr.symm
    | ⟨1, _⟩ => rfl
  obtain ⟨b, hb⟩ : ∃ b : Fin 125, b = blkOf (ix2 a c) := ⟨_, rfl⟩
  have hbv : b.val = a.val / 80 := by rw [hb]; rfl
  rw [hi, ← hb]
  have hrow := fun k => read_row XA a k b r (by omega)
  pointwise [blkProd]
  exact Finset.sum_congr rfl fun k _ => by rw [hrow k]

end Cert.Adj

end
-- ==== Proof.Same.lean ====
/- The kernel and its idealization are the same program text, so a fact of every run of the one is a fact of every run of
   the other. -/
module

public import proofs.«01_k».proof.Defs
public import proofs.«01_k».proof.Proof.Gen.Kernel
public import proofs.«01_k».proof.Proof.Gen.KernelIdeal

@[expose] public section

set_option backward.isDefEq.respectTransparency false
set_option maxHeartbeats 4000000

noncomputable section

namespace Cert.Adj

open Idealize.ShloMosaic Idealize.SL.Sem

variable {F : FTy → Type} [FloatOps F]

/-- The two programs' bodies are one. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl

/-- So are their definitions. -/
theorem defs_eq : @Cert.Kernel.defs F _ Cert.Kernel.Gen.facts = @Cert.KernelIdeal.defs F _ Cert.KernelIdeal.Gen.facts :=
  congrArg (Pipeline.defs (Cert.KernelIdeal.pcfgs (F := F))) bodies_eq

/-- The idealization's frame, at the machine's values, is the kernel's frame. -/
theorem frame_of_ideal_text
    (h : ∀ (m : (ℓ : Loc Cert.KernelIdeal.nD Cert.KernelIdeal.τ Cert.KernelIdeal.sig) → Buf (Elt Bits) ℓ) (g : Dev Cert.KernelIdeal.nD → PrngReg),
      θ_run (Cert.KernelIdeal.defs (F := Bits)) (onTc (τ := Cert.KernelIdeal.τ) (Cert.KernelIdeal.main (F := Bits))) ⟨m, fun _ => 0, g⟩ (fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) :
    Cert.quiescent_Kernel (hKernel := Cert.Kernel.Gen.facts) := fun m g _ => by
  have := h m g
  show θ_run (Cert.Kernel.defs (F := Bits)) _ _ _
  rw [show Cert.Kernel.defs (F := Bits) = Cert.KernelIdeal.defs (F := Bits) from defs_eq]
  exact this

end Cert.Adj

end
-- ==== Proof.lean ====
/- The claims: the three frames, the kernel's idealization, and the kernel's result equal to the reference's at the ideal values. -/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Loops
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same

@[expose] public section

noncomputable section

namespace Cert.Proof

open Idealize.ShloMosaic Idealize.SL.Sem

/-- The kernel runs, its arguments and its semaphores end as they were. -/
theorem frame_kernel : Cert.quiescent_Kernel (hKernel := Cert.Kernel.Gen.facts) :=
  Cert.Adj.frame_of_ideal_text fun m g =>
    (θ_run _ _ _).mono (fun _ h => ⟨fun c => (h.1 c).2, h.2⟩) (Cert.Adj.run_all (F := Bits) m g)

/-- So does its idealization. -/
theorem frame_ideal : Cert.quiescent_KernelIdeal (hKernelIdeal := Cert.KernelIdeal.Gen.facts) := fun m g _ =>
  (θ_run _ _ _).mono (fun _ h => ⟨fun c => (h.1 c).2, h.2⟩) (Cert.Adj.run_all (F := Ideal) m g)

/-- So does the reference, which has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- From equal arguments the idealization and the reference end with equal results. -/
theorem equal_results : Cert.algebraic_KernelIdeal_ReferenceIdeal (hKernelIdeal := Cert.KernelIdeal.Gen.facts)
    (hReferenceIdeal := Cert.ReferenceIdeal.Gen.facts) := fun m g m' g' _ hag =>
  ⟨fun c => Cert.Adj.outV m c,
    (θ_run _ _ _).mono (fun _ h => h.1) (Cert.Adj.run_all (F := Ideal) m g),
    (θ_run _ _ _).mono (fun _ h c => ⟨(h c).1.trans (by
      rw [(hag c).1, (hag c).2]
      exact (Cert.Adj.outOf_eq _ _).symm), (h c).2⟩) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, equal_results⟩

end Cert.Proof

end
